-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_fits [hKernelIdeal : Cert.KernelIdeal.Facts] [hReferenceIdeal : Cert.ReferenceIdeal.Facts] [hOn_fits : Cert.On_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![2048, 256]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![2048]⟩ (Layout.meshBlock [2, 2, 4] ![[2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 256]⟩ : Shape).Idx, (Layout.blockN ⟨2, ![512, 256]⟩ ⟨2, ![2048, 256]⟩ (Layout.meshBlock [2, 2, 4] ![[2], []] c) ((Cert.On_fits.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![512, 256]⟩ : Shape).Idx → _) i = 1#1 → r.2.mem ((c.tc : Thread Cert.KernelIdeal.nD Cert.KernelIdeal.τ).loc Cert.KernelIdeal.main_v1) i = (Layout.blockN ⟨2, ![512, 256]⟩ ⟨2, ![2048, 256]⟩ (Layout.meshBlock [2, 2, 4] ![[2], []] c) v0 : (⟨2, ![512, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 256]⟩ : Shape).Idx, (Cert.On_fits.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v8) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_fits : Cert.On_fits.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_fits (hKernelIdeal := hKernelIdeal) (hReferenceIdeal := hReferenceIdeal) (hOn_fits := hOn_fits)
-- ==== On_fits.lean ====
abbrev S2048x256 : Shape := ⟨2, ![2048, 256]⟩
abbrev S2048 : Shape := ⟨1, ![2048]⟩
abbrev S4 : Shape := ⟨1, ![4]⟩
abbrev S4x1x512 : Shape := ⟨3, ![4, 1, 512]⟩
abbrev S1x4x1 : Shape := ⟨3, ![1, 4, 1]⟩
abbrev S4x4x512 : Shape := ⟨3, ![4, 4, 512]⟩
abbrev S_ : Shape := ⟨0, ![]⟩
abbrev S4x4 : Shape := ⟨2, ![4, 4]⟩

class Facts : Prop where
  shapeCasts_S2048_S4x1x512 : S2048.ShapeCasts S4x1x512
  shapeCasts_S4_S1x4x1 : S4.ShapeCasts S1x4x1
  bcast_S4x1x512_S4x4x512_0_1_2 : S4x1x512.BroadcastsInDim S4x4x512 (![0, 1, 2] : Fin 3 → Fin S4x4x512.rank)
  bcast_S1x4x1_S4x4x512_0_1_2 : S1x4x1.BroadcastsInDim S4x4x512 (![0, 1, 2] : Fin 3 → Fin S4x4x512.rank)
  natLt_1_32 : 1 < 32
  reducesTo_S4x4x512_S4x4_d2 : S4x4x512.ReducesTo [2] S4x4
  h_S_ : 0 < S_.numel
  bcast_S_S4x4 : S_.BroadcastsInDim S4x4 (![] : Fin 0 → Fin S4x4.rank)
  reducesTo_S4x4_S_d0_1 : S4x4.ReducesTo [0, 1] S_
  reducesTo_S4x4_S4_d0 : S4x4.ReducesTo [0] S4
  bcast_S_S4 : S_.BroadcastsInDim S4 (![] : Fin 0 → Fin S4.rank)
  reducesTo_S4_S_d0 : S4.ReducesTo [0] S_
  bcast_S_S2048x256 : S_.BroadcastsInDim S2048x256 (![] : Fin 0 → Fin S2048x256.rank)

variable [Facts]

def fn {F : FTy → Type} [FloatOps F] (main_arg0 : FVec F S2048x256 .bf16) (main_arg1 : IVec S2048 32) : IVec S2048x256 1 :=
  let main_v0 : IVec S4 32 := iotaInDim S4 32 0
  let main_v1 : IVec S4x1x512 32 := shapeCast S4x1x512 main_arg1 shapeCasts_S2048_S4x1x512
  let main_v2 : IVec S1x4x1 32 := shapeCast S1x4x1 main_v0 shapeCasts_S4_S1x4x1
  let main_v3 : IVec S4x4x512 32 := broadcastInDim S4x4x512 ![0, 1, 2] bcast_S4x1x512_S4x4x512_0_1_2 main_v1
  let main_v4 : IVec S4x4x512 32 := broadcastInDim S4x4x512 ![0, 1, 2] bcast_S1x4x1_S4x4x512_0_1_2 main_v2
  let main_v5 : IVec S4x4x512 1 := cmpi .eq main_v3 main_v4
  let main_v6 : IVec S4x4x512 32 := (extui 32 · natLt_1_32) main_v5
  let main_c : IVec S_ 32 := constantI S_ 32 0#32
  let main_v7 : IVec S4x4 32 := (fun x v => Host.reduce IntOp.addi x v reducesTo_S4x4x512_S4x4_d2 h_S_) main_v6 main_c
  let main_c_0 : IVec S_ 32 := constantI S_ 32 160#32
  let main_v8 : IVec S4x4 32 := broadcastInDim S4x4 ![] bcast_S_S4x4 main_c_0
  let main_v9 : IVec S4x4 1 := cmpi .sle main_v7 main_v8
  let main_c_1 : IVec S_ 1 := constantI S_ 1 1#1
  let main_v10 : IVec S_ 1 := (fun x v => Host.reduce IntOp.andi x v reducesTo_S4x4_S_d0_1 h_S_) main_v9 main_c_1
  let main_c_2 : IVec S_ 32 := constantI S_ 32 0#32
  let main_v11 : IVec S4 32 := (fun x v => Host.reduce IntOp.addi x v reducesTo_S4x4_S4_d0 h_S_) main_v7 main_c_2
  let main_c_3 : IVec S_ 32 := constantI S_ 32 512#32
  let main_v12 : IVec S4 32 := broadcastInDim S4 ![] bcast_S_S4 main_c_3
  let main_v13 : IVec S4 1 := cmpi .eq main_v11 main_v12
  let main_c_4 : IVec S_ 1 := constantI S_ 1 1#1
  let main_v14 : IVec S_ 1 := (fun x v => Host.reduce IntOp.andi x v reducesTo_S4_S_d0 h_S_) main_v13 main_c_4
  let main_v15 : IVec S_ 1 := andi main_v10 main_v14
  let main_v16 : IVec S2048x256 1 := broadcastInDim S2048x256 ![] bcast_S_S2048x256 main_v15
  main_v16
-- ==== Kernel.lean ====
abbrev S512x256 : Shape := ⟨2, ![512, 256]⟩
abbrev S512 : Shape := ⟨1, ![512]⟩
abbrev S4x160x256 : Shape := ⟨3, ![4, 160, 256]⟩
abbrev S4x1x512 : Shape := ⟨3, ![4, 1, 512]⟩
abbrev S3 : Shape := ⟨1, ![3]⟩
abbrev S_ : Shape := ⟨0, ![]⟩
abbrev S1x512 : Shape := ⟨2, ![1, 512]⟩
abbrev S1x1x512 : Shape := ⟨3, ![1, 1, 512]⟩
abbrev S4x512 : Shape := ⟨2, ![4, 512]⟩
abbrev S512x512 : Shape := ⟨2, ![512, 512]⟩
abbrev S160x512 : Shape := ⟨2, ![160, 512]⟩
abbrev S160x256 : Shape := ⟨2, ![160, 256]⟩
abbrev S1x160x256 : Shape := ⟨3, ![1, 160, 256]⟩
abbrev S512x160 : Shape := ⟨2, ![512, 160]⟩
abbrev S1 : Shape := ⟨1, ![1]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S512, .i32⟩
  | .hbm, ⟨2, _⟩ => ⟨S512x256, .f32⟩
  | .local _ .vmem, ⟨0, _⟩ => ⟨S512x256, .bf16⟩
  | .local _ .vmem, ⟨1, _⟩ => ⟨S512, .i32⟩
  | .local _ .vmem, ⟨2, _⟩ => ⟨S512x256, .f32⟩
  | .local _ .vmem, ⟨3, _⟩ => ⟨S4x160x256, .bf16⟩
  | .local _ .vmem, ⟨4, _⟩ => ⟨S4x160x256, .bf16⟩
  | .local _ .vmem, ⟨5, _⟩ => ⟨S4x1x512, .i32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let v11 : BitVec 32 := Scalar.remsi v10 c4_i32_3
  let c1_i32_7 : BitVec 32 := 1#32
  let v16 : BitVec 32 := Scalar.muli v11 c1_i32_7
  let v17 : BitVec 32 := Scalar.addi v15 v16
  v17.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32_12 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v18 : BitVec 32 := Scalar.addi v8 c2_i32_8
  let c4_i32_9 : BitVec 32 := 4#32
  let v19 : BitVec 32 := Scalar.remsi v18 c4_i32_9
  let c1_i32_14 : BitVec 32 := 1#32
  let v24 : BitVec 32 := Scalar.muli v19 c1_i32_14
  let v25 : BitVec 32 := Scalar.addi v23 v24
  v25.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 32 := Scalar.addi v8 c3_i32
  let c4_i32_15 : BitVec 32 := 4#32
  let v27 : BitVec 32 := Scalar.remsi v26 c4_i32_15
  let c1_i32_20 : BitVec 32 := 1#32
  let v32 : BitVec 32 := Scalar.muli v27 c1_i32_20
  let v33 : BitVec 32 := Scalar.addi v31 v32
  v33.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v37 : Index := Scalar.indexCast v8
  let c0_21 : Index := 0#32
  let c0_22 : Index := 0#32
  ![v37.toNat, 0, 0]
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v133 : Index := Scalar.indexCast v8
  let c0_50 : Index := 0#32
  let c0_51 : Index := 0#32
  ![v133.toNat, 0, 0]
def k0_off3 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_63 : BitVec 32 := 0#32
  let c0_i32_64 : BitVec 32 := 0#32
  ![v8.toNat, 0, 0]
def k0_dev4 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v142 : BitVec 32 := Scalar.muli v2 c8_i32_59
  let v143 : BitVec 32 := Scalar.addi c0_i32_60 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v144 : BitVec 32 := Scalar.muli v5 c4_i32_61
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v140 : BitVec 32 := Scalar.addi v8 c1_i32_55
  let c4_i32_56 : BitVec 32 := 4#32
  let v141 : BitVec 32 := Scalar.remsi v140 c4_i32_56
  let c1_i32_62 : BitVec 32 := 1#32
  let v146 : BitVec 32 := Scalar.muli v141 c1_i32_62
  let v147 : BitVec 32 := Scalar.addi v145 v146
  v147.toNat
def k0_off4 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_73 : BitVec 32 := 0#32
  let c0_i32_74 : BitVec 32 := 0#32
  ![v8.toNat, 0, 0]
def k0_off5 (d0 : Dev nD) (c1_i32_55 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v140 : BitVec 32 := Scalar.addi v8 c1_i32_55
  let c4_i32_56 : BitVec 32 := 4#32
  let v141 : BitVec 32 := Scalar.remsi v140 c4_i32_56
  let c0_i32_75 : BitVec 32 := 0#32
  let c0_i32_76 : BitVec 32 := 0#32
  ![v141.toNat, 0, 0]
def k0_dev5 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v156 : BitVec 32 := Scalar.muli v2 c8_i32_69
  let v157 : BitVec 32 := Scalar.addi c0_i32_70 v156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_71 : BitVec 32 := 4#32
  let v158 : BitVec 32 := Scalar.muli v5 c4_i32_71
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v140 : BitVec 32 := Scalar.addi v8 c1_i32_55
  let c4_i32_56 : BitVec 32 := 4#32
  let v141 : BitVec 32 := Scalar.remsi v140 c4_i32_56
  let c1_i32_72 : BitVec 32 := 1#32
  let v160 : BitVec 32 := Scalar.muli v141 c1_i32_72
  let v161 : BitVec 32 := Scalar.addi v159 v160
  v161.toNat
def k0_dev6 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v172 : BitVec 32 := Scalar.muli v2 c8_i32_81
  let v173 : BitVec 32 := Scalar.addi c0_i32_82 v172
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v174 : BitVec 32 := Scalar.muli v5 c4_i32_83
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v170 : BitVec 32 := Scalar.addi v8 c2_i32_77
  let c4_i32_78 : BitVec 32 := 4#32
  let v171 : BitVec 32 := Scalar.remsi v170 c4_i32_78
  let c1_i32_84 : BitVec 32 := 1#32
  let v176 : BitVec 32 := Scalar.muli v171 c1_i32_84
  let v177 : BitVec 32 := Scalar.addi v175 v176
  v177.toNat
def k0_dev7 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v186 : BitVec 32 := Scalar.muli v2 c8_i32_91
  let v187 : BitVec 32 := Scalar.addi c0_i32_92 v186
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v188 : BitVec 32 := Scalar.muli v5 c4_i32_93
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v170 : BitVec 32 := Scalar.addi v8 c2_i32_77
  let c4_i32_78 : BitVec 32 := 4#32
  let v171 : BitVec 32 := Scalar.remsi v170 c4_i32_78
  let c1_i32_94 : BitVec 32 := 1#32
  let v190 : BitVec 32 := Scalar.muli v171 c1_i32_94
  let v191 : BitVec 32 := Scalar.addi v189 v190
  v191.toNat
def k0_dev8 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v202 : BitVec 32 := Scalar.muli v2 c8_i32_103
  let v203 : BitVec 32 := Scalar.addi c0_i32_104 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v204 : BitVec 32 := Scalar.muli v5 c4_i32_105
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_99 : BitVec 32 := 3#32
  let v200 : BitVec 32 := Scalar.addi v8 c3_i32_99
  let c4_i32_100 : BitVec 32 := 4#32
  let v201 : BitVec 32 := Scalar.remsi v200 c4_i32_100
  let c1_i32_106 : BitVec 32 := 1#32
  let v206 : BitVec 32 := Scalar.muli v201 c1_i32_106
  let v207 : BitVec 32 := Scalar.addi v205 v206
  v207.toNat
def k0_dev9 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v216 : BitVec 32 := Scalar.muli v2 c8_i32_113
  let v217 : BitVec 32 := Scalar.addi c0_i32_114 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v218 : BitVec 32 := Scalar.muli v5 c4_i32_115
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_99 : BitVec 32 := 3#32
  let v200 : BitVec 32 := Scalar.addi v8 c3_i32_99
  let c4_i32_100 : BitVec 32 := 4#32
  let v201 : BitVec 32 := Scalar.remsi v200 c4_i32_100
  let c1_i32_116 : BitVec 32 := 1#32
  let v220 : BitVec 32 := Scalar.muli v201 c1_i32_116
  let v221 : BitVec 32 := Scalar.addi v219 v220
  v221.toNat
def k0_off6 (d0 : Dev nD) (c1_i32_121 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.addi v8 c1_i32_121
  let c4_i32_122 : BitVec 32 := 4#32
  let v231 : BitVec 32 := Scalar.remsi v230 c4_i32_122
  let c0_i32_129 : BitVec 32 := 0#32
  let c0_i32_130 : BitVec 32 := 0#32
  ![v231.toNat, 0, 0]
def k0_off7 (d0 : Dev nD) (c1_i32_184 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v326 : BitVec 32 := Scalar.addi v8 c1_i32_184
  let c4_i32_185 : BitVec 32 := 4#32
  let v327 : BitVec 32 := Scalar.remsi v326 c4_i32_185
  let v358 : Index := Scalar.indexCast v327
  let c0_206 : Index := 0#32
  let c0_207 : Index := 0#32
  ![v358.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x256 : Shape := ⟨2, ![2048, 256]⟩
abbrev S2048 : Shape := ⟨1, ![2048]⟩
abbrev S_ : Shape := ⟨0, ![]⟩
abbrev S2048x1 : Shape := ⟨2, ![2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x256, .bf16⟩
  | .hbm, ⟨14, _⟩ => ⟨S2048x256, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Common.lean ====
/-
# The exchange of rows over the z axis: the protocol

Sixteen devices in a 2x2x4 mesh. Device c has place z = c mod 4 in its group of four (c/4); the kernel exchanges rows in a group.

Protocol. On entry a device raises the barrier semaphore of the three others of its group; with the raise it hands over what the other one needs to send:
its own slot of the two landing buffers (`barPay`). After its wait for three raises a device owns, on each other device of the group, the slot of index z
of both landing buffers. It sends its row of destinations (the same source slot under three transfers, each with a share of it) and one block of rows to
each. A receive cell hands over the landed slot at its contents, a send cell the source slot. All waits on DMA cells are made owing nothing; the barrier
wait is made owing the credit of the six receive cells, which lie above the barrier cells.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Places in a group -/

set_option backward.proofsInPublic true in
/-- The place of device c in its group. -/
def zc (c : Dev nD) : Fin 4 := ⟨c.val % 4, Nat.mod_lt _ (by decide)⟩

set_option backward.proofsInPublic true in
/-- The device at place s of c's group. -/
def gdev (c : Dev nD) (s : Fin 4) : Dev nD := ⟨c.val - c.val % 4 + s.val, by have := c.isLt; have h : nD = 16 := rfl; omega⟩

/-- The device k + 1 places after c in its group: the target of c's transfer k. -/
def nx (c : Dev nD) (k : Fin 3) : Dev nD := gdev c (zc c + k.succ)

theorem nx_nx (c : Dev nD) (k : Fin 3) : nx (nx c k) k.rev = c := by revert c k; decide
theorem gdev_zc (c : Dev nD) : gdev c (zc c) = c := by revert c; decide
theorem zc_gdev (c : Dev nD) (s : Fin 4) : zc (gdev c s) = s := by revert c s; decide
theorem gdev_nx (c : Dev nD) (k : Fin 3) (s : Fin 4) : gdev (nx c k) s = gdev c s := by revert c k s; decide
theorem gdev_zc_nx (c : Dev nD) (k : Fin 3) : gdev c (zc (nx c k)) = nx c k := by revert c k; decide

/-- The permutation c ↦ `nx c k` of the devices. -/
def nxEquiv (k : Fin 3) : Dev nD ≃ Dev nD :=
  ⟨fun c => nx c k, fun c => nx c k.rev, fun c => nx_nx c k, fun c => by have h := nx_nx c k.rev; rwa [Fin.rev_rev] at h⟩

theorem dev1_eq (c : Dev nD) : (⟨k0_dev1 c, k0_dev1_lt c⟩ : Dev nD) = nx c 0 := Fin.ext ((k0_dev1_eq c).trans (by revert c; decide))
theorem dev2_eq (c : Dev nD) : (⟨k0_dev2 c, k0_dev2_lt c⟩ : Dev nD) = nx c 1 := Fin.ext ((k0_dev2_eq c).trans (by revert c; decide))
theorem dev3_eq (c : Dev nD) : (⟨k0_dev3 c, k0_dev3_lt c⟩ : Dev nD) = nx c 2 := Fin.ext ((k0_dev3_eq c).trans (by revert c; decide))
theorem dev4_eq (c : Dev nD) : (⟨k0_dev4 c, k0_dev4_lt c⟩ : Dev nD) = nx c 0 := Fin.ext ((k0_dev4_eq c).trans (by revert c; decide))
theorem dev5_eq (c : Dev nD) : (⟨k0_dev5 c, k0_dev5_lt c⟩ : Dev nD) = nx c 0 := Fin.ext ((k0_dev5_eq c).trans (by revert c; decide))
theorem dev6_eq (c : Dev nD) : (⟨k0_dev6 c, k0_dev6_lt c⟩ : Dev nD) = nx c 1 := Fin.ext ((k0_dev6_eq c).trans (by revert c; decide))
theorem dev7_eq (c : Dev nD) : (⟨k0_dev7 c, k0_dev7_lt c⟩ : Dev nD) = nx c 1 := Fin.ext ((k0_dev7_eq c).trans (by revert c; decide))
theorem dev8_eq (c : Dev nD) : (⟨k0_dev8 c, k0_dev8_lt c⟩ : Dev nD) = nx c 2 := Fin.ext ((k0_dev8_eq c).trans (by revert c; decide))
theorem dev9_eq (c : Dev nD) : (⟨k0_dev9 c, k0_dev9_lt c⟩ : Dev nD) = nx c 2 := Fin.ext ((k0_dev9_eq c).trans (by revert c; decide))

/-- Where the views through the kernel's computed offsets lie: slot `zc c`, or slot `zc (nx c k)`. -/
theorem off1_eq (c : Dev nD) : k0_off1 c = ![(zc c).val, 0, 0] := k0_off1_eq c
theorem off2_eq (c : Dev nD) : k0_off2 c = ![(zc c).val, 0, 0] := k0_off2_eq c
theorem off3_eq (c : Dev nD) : k0_off3 c = ![(zc c).val, 0, 0] := k0_off3_eq c
theorem off4_eq (c : Dev nD) : k0_off4 c = ![(zc c).val, 0, 0] := k0_off4_eq c
theorem off5_eq (c : Dev nD) (k : Fin 3) : k0_off5 c (BitVec.ofNat 32 (1 + k.val)) = ![(zc (nx c k)).val, 0, 0] :=
  (k0_off5_eq c k).trans (by revert c k; decide)
theorem off6_eq (c : Dev nD) (k : Fin 3) : k0_off6 c (BitVec.ofNat 32 (1 + k.val)) = ![(zc (nx c k)).val, 0, 0] :=
  (k0_off6_eq c k).trans (by revert c k; decide)
theorem off7_eq (c : Dev nD) (k : Fin 3) : k0_off7 c (BitVec.ofNat 32 (1 + k.val)) = ![(zc (nx c k)).val, 0, 0] :=
  (k0_off7_eq c k).trans (by revert c k; decide)

/-! ## The memrefs -/

abbrev xM : Memref sig .tc .vmem S512x256 .bf16 := Memref.whole cc0_stg0_0
abbrev dM : Memref sig .tc .vmem S512 .i32 := Memref.whole cc0_stg1_0
abbrev oM : Memref sig .tc .vmem S512x256 .f32 := Memref.whole cc0_stg2_0
abbrev sM : Memref sig .tc .vmem S4x160x256 .bf16 := Memref.whole cc0_scratch0
abbrev yM : Memref sig .tc .vmem S4x160x256 .bf16 := Memref.whole cc0_scratch1
abbrev gM : Memref sig .tc .vmem S4x1x512 .i32 := Memref.whole cc0_scratch2

/-- The credit of a block of rows, and of a row of destinations. -/
abbrev NX : ℕ := sig.dmaCredit .tc (Kind.table .tc (.vmem : Space)) (yM : Memref sig .tc .vmem S4x160x256 .bf16).view.buf S160x256 .bf16
abbrev ND : ℕ := sig.dmaCredit .tc (Kind.table .tc (.vmem : Space)) (gM : Memref sig .tc .vmem S4x1x512 .i32).view.buf S1x512 .i32
theorem NX_pos : 0 < NX := sig.dmaCredit_pos _ _ _ _ _ (by decide)
theorem ND_pos : 0 < ND := sig.dmaCredit_pos _ _ _ _ _ (by decide)

/-! ## Contents -/

/-- The staged blocks of device c: its rows and its destinations. -/
def xstg (c : Dev nD) : Vec F S512x256 .bf16 := (win0_0.blk (0 : Fin 1)).view.read (Elt F) ((s₀ m ρ).mem ((c : Thread nD τ).loc main_arg0))
def dstg (c : Dev nD) : Vec F S512 .i32 := (win0_1.blk (0 : Fin 1)).view.read (Elt F) ((s₀ m ρ).mem ((c : Thread nD τ).loc main_arg1))

/-- The block of rows that device c packs for place r. -/
def segAt (c : Dev nD) : Fin 4 → FVec F S1x160x256 .bf16
  | 0 => k0_pay6 (k0_pay5 (dstg m ρ c) (xstg m ρ c))
  | 1 => k0_pay7 (k0_pay2 (xstg m ρ c)) (k0_pay3 (dstg m ρ c)) (k0_pay4 (dstg m ρ c)) (iota .tc S160x512 32 [0] iota_S160x512_d0_w32)
  | 2 => k0_pay8 (k0_pay2 (xstg m ρ c)) (k0_pay3 (dstg m ρ c)) (k0_pay4 (dstg m ρ c)) (iota .tc S160x512 32 [0] iota_S160x512_d0_w32)
  | 3 => k0_pay10 (k0_pay2 (xstg m ρ c)) (k0_pay4 (dstg m ρ c)) (iota .tc S160x512 32 [0] iota_S160x512_d0_w32) (k0_pay9 (k0_pay3 (dstg m ρ c)))

/-- An index of a buffer of four slots, within its slot. -/
def inSlotX (i : S4x160x256.Idx) : S1x160x256.Idx
  | ⟨0, _⟩ => (0 : Fin 1)
  | ⟨1, _⟩ => i 1
  | ⟨2, _⟩ => i 2
def inSlotD (i : S4x1x512.Idx) : S1x1x512.Idx
  | ⟨0, _⟩ => (0 : Fin 1)
  | ⟨1, _⟩ => i 1
  | ⟨2, _⟩ => i 2

/-- What the send buffer of device c comes to hold: slot r the block packed for place r. -/
def SEG (c : Dev nD) : (cc0_scratch0 : Ref sig .tc).ty.Contents (Elt F) := fun (i : S4x160x256.Idx) => segAt m ρ c (i 0) (inSlotX i)
/-- What the landing buffer of rows comes to hold: slot s the block that place s packed for c. -/
def YG (c : Dev nD) : (cc0_scratch1 : Ref sig .tc).ty.Contents (Elt F) := fun (i : S4x160x256.Idx) => segAt m ρ (gdev c (i 0)) (zc c) (inSlotX i)
/-- What the landing buffer of destinations comes to hold: slot s the destinations of place s. -/
def DG (c : Dev nD) : (cc0_scratch2 : Ref sig .tc).ty.Contents (Elt F) := fun (i : S4x1x512.Idx) => k0_pay1 (dstg m ρ (gdev c (i 0))) (inSlotD i)

/-! ## Slots of the three buffers -/

/-- The elements of slot r. -/
def xset (r : Fin 4) : Finset S4x160x256.Idx := Finset.univ.filter fun i => (i 0).val = r.val
def dset (r : Fin 4) : Finset S4x1x512.Idx := Finset.univ.filter fun i => (i 0).val = r.val

def segSlot (c : Dev nD) (r : Fin 4) (f : Buf (Elt F) ((c : Thread nD τ).loc cc0_scratch0)) : sProp 𝕄 :=
  ((c : Thread nD τ).loc cc0_scratch0) ↦[xset r]{fullShare} f
def yslot (c : Dev nD) (r : Fin 4) (f : Buf (Elt F) ((c : Thread nD τ).loc cc0_scratch1)) : sProp 𝕄 :=
  ((c : Thread nD τ).loc cc0_scratch1) ↦[xset r]{fullShare} f
def dslot (c : Dev nD) (r : Fin 4) (q : PosShare TreeShare) (f : Buf (Elt F) ((c : Thread nD τ).loc cc0_scratch2)) : sProp 𝕄 :=
  ((c : Thread nD τ).loc cc0_scratch2) ↦[dset r]{q} f

omit [FloatOps F] in
instance segSlot_storable (c : Dev nD) (r f) : BI.Storable (upEmb : UEmb _ 𝕄) (segSlot (F := F) c r f) := by unfold segSlot; infer_instance
omit [FloatOps F] in
instance yslot_storable (c : Dev nD) (r f) : BI.Storable (upEmb : UEmb _ 𝕄) (yslot (F := F) c r f) := by unfold yslot; infer_instance
omit [FloatOps F] in
instance dslot_storable (c : Dev nD) (r q f) : BI.Storable (upEmb : UEmb _ 𝕄) (dslot (F := F) c r q f) := by unfold dslot; infer_instance

/-- The share of the source slot under transfer k; the fourth share stays with the device. -/
def shr : Fin 3 → PosShare TreeShare
  | 0 => fullShare.left.left
  | 1 => fullShare.left.right
  | 2 => fullShare.right.left

/-! ## Cells -/

/-- The runtime's barrier semaphore, unscoped. -/
abbrev barS : Sem sig := (SemArray.scalar (sig.barrier 0 rfl) : Sems sig S_).sem

/-- The four arrays of three DMA semaphores: rows sent, rows received, destinations sent, destinations received. -/
abbrev xsem (a : Fin 4) (k : Fin 3) : DmaSem sig := (⟨3 + 3 * a.val + k.val, by have h : sig.nDmaSem = 15 := rfl; omega⟩ : Fin sig.nDmaSem)

/-- The cells of a device: the barrier's (none) and the twelve DMA cells. -/
abbrev CI : Type := Option (Fin 4 × Fin 3)
abbrev csem : CI → SemLoc sig
  | none => .reg barS
  | some (a, k) => .dma (xsem a k)
abbrev barCell (c : Dev nD) : GSem nD τ sig := ((c : Thread nD τ), .reg barS)
abbrev xCell (c : Dev nD) (a : Fin 4) (k : Fin 3) : GSem nD τ sig := ((c : Thread nD τ), .dma (xsem a k))
abbrev kcell (ck : Dev nD × CI) : GSem nD τ sig := ((ck.1 : Thread nD τ), csem ck.2)

theorem csem_injective : Function.Injective csem := by
  rintro (_ | ⟨a, k⟩) (_ | ⟨a', k'⟩) h
  · rfl
  · cases h
  · cases h
  · have h1 : xsem a k = xsem a' k' := SemLoc.dma.inj h
    have h2 := congrArg Fin.val h1
    simp only [xsem] at h2
    have ha : a = a' := Fin.ext (by omega)
    have hk : k = k' := Fin.ext (by omega)
    rw [ha, hk]

/-! ## The schedule -/

/-- Duty k of c's barrier cell, paid by `nx c k`: the slot of c's place in the two landing buffers of that device. -/
def barPay (c : Dev nD) (k : Fin 3) : sProp 𝕄 :=
  iprop((∃ f, yslot (F := F) (nx c k) (zc c) f) ∗ ∃ f, dslot (F := F) (nx c k) (zc c) fullShare f)

/-- What a DMA cell hands over. -/
def xPay (c : Dev nD) (a : Fin 4) (k : Fin 3) : sProp 𝕄 :=
  match a with
  | 0 => segSlot c (zc (nx c k)) (SEG m ρ c)
  | 1 => yslot c (zc (nx c k.rev)) (YG m ρ c)
  | 2 => dslot c (zc c) (shr k) (DG m ρ c)
  | 3 => dslot c (zc (nx c k.rev)) fullShare (DG m ρ c)

/-- The credit of a DMA cell. -/
def xAmt (a : Fin 4) : ℕ := if a.val < 2 then NX else ND
theorem xAmt_pos (a : Fin 4) : 0 < xAmt a := by unfold xAmt; split; exacts [NX_pos, ND_pos]

omit [FloatOps F] in
instance barPay_storable (c : Dev nD) (k) : BI.Storable (upEmb : UEmb _ 𝕄) (barPay (F := F) c k) := by unfold barPay; infer_instance
instance xPay_storable (c : Dev nD) (a k) : BI.Storable (upEmb : UEmb _ 𝕄) (xPay (F := F) m ρ c a k) := by
  unfold xPay; split <;> infer_instance

/-- Which of the cells a semaphore is, if it is one. -/
def cellIx (s : SemLoc sig) : Option CI := (Finset.univ : Finset CI).toList.find? fun i => csem i = s
theorem cellIx_csem (i : CI) : cellIx (csem i) = some i := by
  unfold cellIx
  cases h : (Finset.univ : Finset CI).toList.find? fun j => csem j = csem i with
  | none => exact absurd (List.find?_eq_none.mp h i (Finset.mem_toList.mpr (Finset.mem_univ i))) (by simp)
  | some j =>
    have hj := List.find?_some h
    rw [csem_injective (of_decide_eq_true hj)]

/-- One round: a barrier cell has three duties of one unit, a DMA cell one duty of its credit. -/
def rd : Rounds.Schedule (GSem nD τ sig) (Fin 3) 𝕄 where
  duties g r := if r = 0 ∧ g.1.2 = .tc then (match cellIx g.2 with | some none => Finset.univ | some (some _) => {0} | none => ∅) else ∅
  unitless _ := False
  amount g _ _ := match cellIx g.2 with | some (some (a, _)) => xAmt a | _ => 1
  payload g _ d := match cellIx g.2 with | some none => barPay g.1.1 d | some (some (a, k)) => xPay m ρ g.1.1 a k | none => iprop(emp)
  amount_pos g _ _ _ := by
    split
    · exact xAmt_pos _
    · exact Nat.one_pos

instance rd_payload_storable (g : GSem nD τ sig) (r : ℕ) (d : Fin 3) :
    BI.Storable (upEmb : UEmb _ 𝕄) ((rd (F := F) m ρ).payload g r d) := by
  show BI.Storable upEmb (match cellIx g.2 with | some none => barPay g.1.1 d | some (some (a, k)) => xPay m ρ g.1.1 a k | none => iprop(emp))
  split <;> infer_instance

section Sched
variable (c : Dev nD) (a : Fin 4) (k : Fin 3)

theorem cellIx_bar : cellIx (.reg barS) = some none := cellIx_csem none
theorem cellIx_x : cellIx (.dma (xsem a k)) = some (some (a, k)) := cellIx_csem (some (a, k))

theorem duties_bar : (rd (F := F) m ρ).duties (barCell c) 0 = Finset.univ := by
  dsimp only [rd]; rw [if_pos ⟨rfl, rfl⟩, cellIx_bar]
theorem duties_x : (rd (F := F) m ρ).duties (xCell c a k) 0 = {0} := by
  dsimp only [rd]; rw [if_pos ⟨rfl, rfl⟩, cellIx_x]
theorem duties_later (g : GSem nD τ sig) : ∀ r, 1 ≤ r → (rd (F := F) m ρ).duties g r = ∅ :=
  fun r hr => by dsimp only [rd]; exact if_neg fun h => by omega
theorem amount_bar (d : Fin 3) : (rd (F := F) m ρ).amount (barCell c) 0 d = 1 := by dsimp only [rd]; rw [cellIx_bar]
theorem amount_x (d : Fin 3) : (rd (F := F) m ρ).amount (xCell c a k) 0 d = xAmt a := by dsimp only [rd]; rw [cellIx_x]
theorem payload_bar (d : Fin 3) : (rd (F := F) m ρ).payload (barCell c) 0 d = barPay c d := by dsimp only [rd]; rw [cellIx_bar]
theorem payload_x (d : Fin 3) : (rd (F := F) m ρ).payload (xCell c a k) 0 d = xPay m ρ c a k := by dsimp only [rd]; rw [cellIx_x]

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_x : (rd (F := F) m ρ).expect (xCell c a k) 0 = xAmt a := by
  unfold Schedule.expect Schedule.amountOf; rw [duties_x, Finset.sum_singleton, amount_x]

/-- What the wait for a whole round of a barrier cell hands over: the three payloads. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
/-- And of a DMA cell: its payload. -/
theorem rest_x : bigSep ((rd (F := F) m ρ).duties (xCell c a k) 0 \ ∅) (fun d => (rd (F := F) m ρ).payload (xCell c a k) 0 d) = xPay m ρ c a k := by
  rw [Finset.sdiff_empty, duties_x, bigSep_singleton, payload_x]

end Sched

/-! ## What a device owes; the levels -/

/-- The credit a device owes at launch, summed so that each statement peels the last summand. -/
def owX2 (c : Dev nD) : CellTallies nD τ sig Unit := 0 + tallyAt (xCell (nx c 2) 1 2) () (xAmt 1)
def owD2 (c : Dev nD) : CellTallies nD τ sig Unit := owX2 c + tallyAt (xCell (nx c 2) 3 2) () (xAmt 3)
def owX1 (c : Dev nD) : CellTallies nD τ sig Unit := owD2 c + tallyAt (xCell (nx c 1) 1 1) () (xAmt 1)
def owD1 (c : Dev nD) : CellTallies nD τ sig Unit := owX1 c + tallyAt (xCell (nx c 1) 3 1) () (xAmt 3)
def owX0 (c : Dev nD) : CellTallies nD τ sig Unit := owD1 c + tallyAt (xCell (nx c 0) 1 0) () (xAmt 1)
def owD0 (c : Dev nD) : CellTallies nD τ sig Unit := owX0 c + tallyAt (xCell (nx c 0) 3 0) () (xAmt 3)
def owB2 (c : Dev nD) : CellTallies nD τ sig Unit := owD0 c + tallyAt (barCell (nx c 2)) () 1
def owB1 (c : Dev nD) : CellTallies nD τ sig Unit := owB2 c + tallyAt (barCell (nx c 1)) () 1
def O₀ (c : Dev nD) : CellTallies nD τ sig Unit := owB1 c + tallyAt (barCell (nx c 0)) () 1

def L (g : GSem nD τ sig) : Finset Unit := if g.1.2 = .tc then {()} else ∅
/-- Barrier cells at level 1, receive cells at 2, every other cell at 0. -/
def lv (g : GSem nD τ sig) (_ : Unit) : ℕ :=
  match cellIx g.2 with
  | some none => 1
  | some (some (a, _)) => if a = 1 ∨ a = 3 then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [cellIx_bar]
theorem lv_x (c : Dev nD) (a k) : lv (xCell c a k) () = if a = 1 ∨ a = 3 then 2 else 0 := by unfold lv; rw [cellIx_x]

theorem add_tally_pos {O : CellTallies nD τ sig Unit} {g' g : GSem nD τ sig} {n : ℕ} {u : Unit} (h : 0 < (O + tallyAt g' () n) g u) :
    0 < O g u ∨ g = g' := by
  rw [Pi.add_apply, Finsupp.add_apply, tallyAt_apply] at h
  by_contra hn
  rw [not_or] at hn
  rw [if_neg (fun h' => hn.2 h'.1)] at h
  omega

theorem owD0_pos {c : Dev nD} {g : GSem nD τ sig} {u : Unit} (h : 0 < owD0 c g u) :
    ∃ k : Fin 3, g = xCell (nx c k) 1 k ∨ g = xCell (nx c k) 3 k := by
  rcases add_tally_pos h with h | h
  · rcases add_tally_pos h with h | h
    · rcases add_tally_pos h with h | h
      · rcases add_tally_pos h with h | h
        · rcases add_tally_pos h with h | h
          · rcases add_tally_pos h with h | h
            · exact absurd h (Nat.lt_irrefl 0)
            · exact ⟨2, .inl h⟩
          · exact ⟨2, .inr h⟩
        · exact ⟨1, .inl h⟩
      · exact ⟨1, .inr h⟩
    · exact ⟨0, .inl h⟩
  · exact ⟨0, .inr h⟩

theorem O₀_pos {c : Dev nD} {g : GSem nD τ sig} {u : Unit} (h : 0 < O₀ c g u) :
    (∃ k : Fin 3, g = xCell (nx c k) 1 k ∨ g = xCell (nx c k) 3 k) ∨ ∃ k, g = barCell (nx c k) := by
  rcases add_tally_pos h with h | h
  · rcases add_tally_pos h with h | h
    · rcases add_tally_pos h with h | h
      · exact .inl (owD0_pos h)
      · exact .inr ⟨2, h⟩
    · exact .inr ⟨1, h⟩
  · exact .inr ⟨0, h⟩

omit [FloatOps F] in
/-- The pipeline's waits on staging semaphores, at launch and after the body. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl | rfl⟩ | ⟨k, rfl⟩ <;> exact Finset.mem_singleton_self _)
      (fun p hp => ?_)
      (fun g u hg => by
        rcases O₀_pos hg with ⟨k, rfl | rfl⟩ | ⟨k, rfl⟩
        · rw [lv_x]; decide
        · rw [lv_x]; decide
        · rw [lv_bar]; decide)
    rw [Finset.mem_singleton.mp hp]
    have hn : cellIx (.dma q) = none := by
      unfold cellIx
      refine List.find?_eq_none.mpr fun i _ h => ?_
      have h := of_decide_eq_true h
      rcases i with _ | ⟨a, k⟩
      · cases h
      · have h1 : xsem a k = q := SemLoc.dma.inj h
        have h2 := congrArg Fin.val h1
        simp only [xsem] at h2
        omega
    show lv ((c : Thread nD τ), .dma q) () ≤ 0
    unfold lv
    rw [hn]
  · rw [MayWait_zero]; iintro -; iempintro

omit [FloatOps F] in
/-- At its barrier wait a device owes receive cells only: they lie above its barrier cell. -/
theorem mayWait_bar (c : Dev nD) : (levAts L lv : sProp 𝕄) ⊢ MayWait (c : Thread nD τ) (.reg barS) () (owD0 c) :=
  MayOwe.of_cut (L := L) (lev := lv) 1 (fun p hp => by rw [Finset.mem_singleton.mp hp, L_tc]; exact Finset.mem_singleton_self _)
    (fun g u hg => by rcases owD0_pos hg with ⟨k, rfl | rfl⟩ <;> exact Finset.mem_singleton_self _)
    (fun p hp => by rw [Finset.mem_singleton.mp hp]; exact (lv_bar c).le)
    (fun g u hg => by
      rcases owD0_pos hg with ⟨k, rfl | rfl⟩
      · rw [lv_x]; decide
      · rw [lv_x]; decide)

end Cert.A2A

end
-- ==== Proof.Steps.lean ====
/-
# The exchange of rows: slots of buffers, and one rule for each kind of statement

What the views through a slot read and write in terms of the buffers' whole contents (`SEG`, `YG`, `DG`), and the rules of the body's statements
(a load or store of a slot, a raise of the barrier, a transfer, a wait) stated on slots.
-/
module

public import proofs.«01_k».proof.Proof.Common

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Slots -/

/-- A conjunction over the four slots, in the order of the places seen from c. -/
theorem bigSep_places (c : Dev nD) (Φ : Fin 4 → sProp 𝕄) :
    bigSep Finset.univ Φ = iprop(Φ (zc c) ∗ Φ (zc (nx c 0)) ∗ Φ (zc (nx c 1)) ∗ Φ (zc (nx c 2))) :=
  bigSep_univ_eq_bigSepL [zc c, zc (nx c 0), zc (nx c 1), zc (nx c 2)] (by revert c; decide) (by revert c; decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem mem_xset {r : Fin 4} {i : S4x160x256.Idx} : i ∈ xset r ↔ (i 0).val = r.val := by unfold xset; rw [Finset.mem_filter]; exact and_iff_right (Finset.mem_univ _)
theorem mem_dset {r : Fin 4} {i : S4x1x512.Idx} : i ∈ dset r ↔ (i 0).val = r.val := by unfold dset; rw [Finset.mem_filter]; exact and_iff_right (Finset.mem_univ _)

theorem xset_cover : (Finset.univ : Finset (Fin 4)).biUnion xset = Finset.univ :=
  Finset.eq_univ_of_forall fun i => Finset.mem_biUnion.mpr ⟨⟨(i 0).val, (i 0).isLt⟩, Finset.mem_univ _, mem_xset.mpr rfl⟩
theorem dset_cover : (Finset.univ : Finset (Fin 4)).biUnion dset = Finset.univ :=
  Finset.eq_univ_of_forall fun i => Finset.mem_biUnion.mpr ⟨⟨(i 0).val, (i 0).isLt⟩, Finset.mem_univ _, mem_dset.mpr rfl⟩
theorem xset_disjoint : ∀ r ∈ (Finset.univ : Finset (Fin 4)), ∀ r' ∈ (Finset.univ : Finset (Fin 4)), r ≠ r' → Disjoint (xset r) (xset r') :=
  fun r _ r' _ h => Finset.disjoint_left.mpr fun i hi hi' => h (Fin.ext ((mem_xset.mp hi).symm.trans (mem_xset.mp hi')))
theorem dset_disjoint : ∀ r ∈ (Finset.univ : Finset (Fin 4)), ∀ r' ∈ (Finset.univ : Finset (Fin 4)), r ≠ r' → Disjoint (dset r) (dset r') :=
  fun r _ r' _ h => Finset.disjoint_left.mpr fun i hi hi' => h (Fin.ext ((mem_dset.mp hi).symm.trans (mem_dset.mp hi')))

/-- A whole buffer is its four slots. -/
theorem seg_slots (c : Dev nD) (f : Buf (Elt F) ((c : Thread nD τ).loc cc0_scratch0)) :
    (((c : Thread nD τ).loc cc0_scratch0) ↦{fullShare} f : sProp 𝕄) = bigSep Finset.univ fun r => segSlot c r f :=
  (congrArg (fun S : Finset S4x160x256.Idx => (((c : Thread nD τ).loc cc0_scratch0) ↦[S]{fullShare} f : sProp 𝕄)) xset_cover.symm).trans
    (pointsTo_biUnion (ℓ := (c : Thread nD τ).loc cc0_scratch0) Finset.univ xset xset_disjoint)
theorem y_slots (c : Dev nD) (f : Buf (Elt F) ((c : Thread nD τ).loc cc0_scratch1)) :
    (((c : Thread nD τ).loc cc0_scratch1) ↦{fullShare} f : sProp 𝕄) = bigSep Finset.univ fun r => yslot c r f :=
  (congrArg (fun S : Finset S4x160x256.Idx => (((c : Thread nD τ).loc cc0_scratch1) ↦[S]{fullShare} f : sProp 𝕄)) xset_cover.symm).trans
    (pointsTo_biUnion (ℓ := (c : Thread nD τ).loc cc0_scratch1) Finset.univ xset xset_disjoint)
theorem d_slots (c : Dev nD) (f : Buf (Elt F) ((c : Thread nD τ).loc cc0_scratch2)) :
    (((c : Thread nD τ).loc cc0_scratch2) ↦{fullShare} f : sProp 𝕄) = bigSep Finset.univ fun r => dslot c r fullShare f :=
  (congrArg (fun S : Finset S4x1x512.Idx => (((c : Thread nD τ).loc cc0_scratch2) ↦[S]{fullShare} f : sProp 𝕄)) dset_cover.symm).trans
    (pointsTo_biUnion (ℓ := (c : Thread nD τ).loc cc0_scratch2) Finset.univ dset dset_disjoint)

/-- The share that a device keeps of its own row of destinations while three transfers read it. -/
abbrev shrKept : PosShare TreeShare := fullShare.right.right

/-- A slot of destinations is its four shares. -/
theorem dslot_shares (c : Dev nD) (r : Fin 4) (f : Buf (Elt F) ((c : Thread nD τ).loc cc0_scratch2)) :
    (dslot c r fullShare f : sProp 𝕄) ⊣⊢ iprop((dslot c r (shr 0) f ∗ dslot c r (shr 1) f) ∗ dslot c r (shr 2) f ∗ dslot c r shrKept f) :=
  (pointsTo_share (PosShare.mem_left_op_right fullShare)).trans
    (sep_congr (pointsTo_share (PosShare.mem_left_op_right fullShare.left)) (pointsTo_share (PosShare.mem_left_op_right fullShare.right)))

/-! ## The elements under the views -/

/-- A rectangle of one slot is the slot. -/
theorem rect_x {off : Fin 3 → ℕ} {r : Fin 4} (h : off = ![r.val, 0, 0]) (inb : ∀ a, off a + S1x160x256.size a ≤ S4x160x256.size a) :
    (Rect.unit (s := S4x160x256) off S1x160x256.size inb).set = xset r := by
  subst h
  ext i
  rw [Rect.mem_set_unit, mem_xset]
  refine ⟨fun h => ?_, fun h a => ?_⟩
  · have h0 := h 0
    change r.val ≤ (i 0).val ∧ (i 0).val < r.val + 1 at h0
    omega
  · match a with
    | ⟨0, _⟩ => change r.val ≤ (i 0).val ∧ (i 0).val < r.val + 1; omega
    | ⟨1, _⟩ => exact ⟨Nat.zero_le _, by have := (i 1).isLt; change (i 1).val < 0 + 160; change (i 1).val < 160 at this; omega⟩
    | ⟨2, _⟩ => exact ⟨Nat.zero_le _, by have := (i 2).isLt; change (i 2).val < 0 + 256; change (i 2).val < 256 at this; omega⟩
theorem rect_d {off : Fin 3 → ℕ} {r : Fin 4} (h : off = ![r.val, 0, 0]) (inb : ∀ a, off a + S1x1x512.size a ≤ S4x1x512.size a) :
    (Rect.unit (s := S4x1x512) off S1x1x512.size inb).set = dset r := by
  subst h
  ext i
  rw [Rect.mem_set_unit, mem_dset]
  refine ⟨fun h => ?_, fun h a => ?_⟩
  · have h0 := h 0
    change r.val ≤ (i 0).val ∧ (i 0).val < r.val + 1 at h0
    omega
  · match a with
    | ⟨0, _⟩ => change r.val ≤ (i 0).val ∧ (i 0).val < r.val + 1; omega
    | ⟨1, _⟩ => exact ⟨Nat.zero_le _, by have := (i 1).isLt; change (i 1).val < 0 + 1; change (i 1).val < 1 at this; omega⟩
    | ⟨2, _⟩ => exact ⟨Nat.zero_le _, by have := (i 2).isLt; change (i 2).val < 0 + 512; change (i 2).val < 512 at this; omega⟩

/-- Where an index of a slot lies in the buffer. -/
theorem emb_x0 {off : Fin 3 → ℕ} {r : Fin 4} (h : off = ![r.val, 0, 0]) (inb : ∀ a, off a + S1x160x256.size a ≤ S4x160x256.size a) (x : S1x160x256.Idx) :
    ((Rect.unit (s := S4x160x256) off S1x160x256.size inb).emb x : S4x160x256.Idx) 0 = r := by
  subst h
  refine Fin.ext ?_
  have h1 := Rect.emb_apply (Rect.unit (s := S4x160x256) ![r.val, 0, 0] S1x160x256.size inb) x (0 : Fin 3)
  refine h1.trans ?_
  have h2 : (x 0).val < 1 := (x 0).isLt
  change r.val + 1 * (x 0).val = r.val
  omega
theorem emb_x1 {off : Fin 3 → ℕ} {r : Fin 4} (h : off = ![r.val, 0, 0]) (inb : ∀ a, off a + S1x160x256.size a ≤ S4x160x256.size a) (x : S1x160x256.Idx) :
    inSlotX ((Rect.unit (s := S4x160x256) off S1x160x256.size inb).emb x) = x := by
  subst h
  refine Shape.idx3_ext ?_ ?_ ?_
  · have h2 : (x 0).val < 1 := (x 0).isLt
    change 0 = (x 0).val
    omega
  · refine (Rect.emb_apply (Rect.unit (s := S4x160x256) ![r.val, 0, 0] S1x160x256.size inb) x (1 : Fin 3)).trans ?_
    change 0 + 1 * (x 1).val = (x 1).val
    omega
  · refine (Rect.emb_apply (Rect.unit (s := S4x160x256) ![r.val, 0, 0] S1x160x256.size inb) x (2 : Fin 3)).trans ?_
    change 0 + 1 * (x 2).val = (x 2).val
    omega
theorem emb_d0 {off : Fin 3 → ℕ} {r : Fin 4} (h : off = ![r.val, 0, 0]) (inb : ∀ a, off a + S1x1x512.size a ≤ S4x1x512.size a) (x : S1x1x512.Idx) :
    ((Rect.unit (s := S4x1x512) off S1x1x512.size inb).emb x : S4x1x512.Idx) 0 = r := by
  subst h
  refine Fin.ext ?_
  refine (Rect.emb_apply (Rect.unit (s := S4x1x512) ![r.val, 0, 0] S1x1x512.size inb) x (0 : Fin 3)).trans ?_
  have h2 : (x 0).val < 1 := (x 0).isLt
  change r.val + 1 * (x 0).val = r.val
  omega
theorem emb_d1 {off : Fin 3 → ℕ} {r : Fin 4} (h : off = ![r.val, 0, 0]) (inb : ∀ a, off a + S1x1x512.size a ≤ S4x1x512.size a) (x : S1x1x512.Idx) :
    inSlotD ((Rect.unit (s := S4x1x512) off S1x1x512.size inb).emb x) = x := by
  subst h
  refine Shape.idx3_ext ?_ ?_ ?_
  · have h2 : (x 0).val < 1 := (x 0).isLt
    change 0 = (x 0).val
    omega
  · refine (Rect.emb_apply (Rect.unit (s := S4x1x512) ![r.val, 0, 0] S1x1x512.size inb) x (1 : Fin 3)).trans ?_
    change 0 + 1 * (x 1).val = (x 1).val
    omega
  · refine (Rect.emb_apply (Rect.unit (s := S4x1x512) ![r.val, 0, 0] S1x1x512.size inb) x (2 : Fin 3)).trans ?_
    change 0 + 1 * (x 2).val = (x 2).val
    omega

/-! ## What the views read and write -/

section Views

variable {off : Fin 3 → ℕ} {r : Fin 4} (h : off = ![r.val, 0, 0])
include h

/-- A load of slot r of the send buffer reads the block packed for place r. -/
theorem read_SEG (c : Dev nD) (inb : ∀ a, off a + S1x160x256.size a ≤ S4x160x256.size a) :
    (sM : Memref sig .tc .vmem S4x160x256 .bf16).view.readAt (Elt F) (Rect.unit (s := S4x160x256) off S1x160x256.size inb).toLoadRect (SEG m ρ c) = segAt m ρ c r := by
  funext x
  change segAt m ρ c (((Rect.unit (s := S4x160x256) off S1x160x256.size inb).emb x : S4x160x256.Idx) 0) (inSlotX ((Rect.unit (s := S4x160x256) off S1x160x256.size inb).emb x)) = _
  rw [emb_x0 h, emb_x1 h]
/-- A load of slot r of the landing buffer of rows reads the block that place r packed for c. -/
theorem read_YG (c : Dev nD) (inb : ∀ a, off a + S1x160x256.size a ≤ S4x160x256.size a) :
    (yM : Memref sig .tc .vmem S4x160x256 .bf16).view.readAt (Elt F) (Rect.unit (s := S4x160x256) off S1x160x256.size inb).toLoadRect (YG m ρ c)
      = segAt m ρ (gdev c r) (zc c) := by
  funext x
  change segAt m ρ (gdev c (((Rect.unit (s := S4x160x256) off S1x160x256.size inb).emb x : S4x160x256.Idx) 0)) (zc c)
    (inSlotX ((Rect.unit (s := S4x160x256) off S1x160x256.size inb).emb x)) = _
  rw [emb_x0 h, emb_x1 h]
/-- A load of slot r of the landing buffer of destinations reads the destinations of place r. -/
theorem read_DG (c : Dev nD) (inb : ∀ a, off a + S1x1x512.size a ≤ S4x1x512.size a) :
    (gM : Memref sig .tc .vmem S4x1x512 .i32).view.readAt (Elt F) (Rect.unit (s := S4x1x512) off S1x1x512.size inb).toLoadRect (DG m ρ c)
      = k0_pay1 (dstg m ρ (gdev c r)) := by
  funext x
  change k0_pay1 (dstg m ρ (gdev c (((Rect.unit (s := S4x1x512) off S1x1x512.size inb).emb x : S4x1x512.Idx) 0)))
    (inSlotD ((Rect.unit (s := S4x1x512) off S1x1x512.size inb).emb x)) = _
  rw [emb_d0 h, emb_d1 h]

/-- A store of the block packed for place r writes what the send buffer comes to hold. -/
theorem write_SEG (c : Dev nD) (inb : ∀ a, off a + S1x160x256.size a ≤ S4x160x256.size a) (f : (cc0_scratch0 : Ref sig .tc).ty.Contents (Elt F)) :
    ∀ i ∈ xset r, ((sM : Memref sig .tc .vmem S4x160x256 .bf16).access (Rect.unit (s := S4x160x256) off S1x160x256.size inb)).write (Elt F) f (segAt m ρ c r) Finset.univ i
      = SEG m ρ c i := by
  intro i hi
  rw [← rect_x h inb, ← Rect.map_emb_univ] at hi
  obtain ⟨x, -, rfl⟩ := Finset.mem_map.mp hi
  refine (View.write_emb_of_mem (v := (sM : Memref sig .tc .vmem S4x160x256 .bf16).access (Rect.unit (s := S4x160x256) off S1x160x256.size inb)) f (segAt m ρ c r) (Finset.mem_univ x)).trans ?_
  change segAt m ρ c r x = segAt m ρ c (((Rect.unit (s := S4x160x256) off S1x160x256.size inb).emb x : S4x160x256.Idx) 0)
    (inSlotX ((Rect.unit (s := S4x160x256) off S1x160x256.size inb).emb x))
  rw [emb_x0 h, emb_x1 h]
/-- A store into slot r of the landing buffer of rows of the block that place r packed for c. -/
theorem write_YG (c : Dev nD) (inb : ∀ a, off a + S1x160x256.size a ≤ S4x160x256.size a) (f : (cc0_scratch1 : Ref sig .tc).ty.Contents (Elt F)) :
    ∀ i ∈ xset r, ((yM : Memref sig .tc .vmem S4x160x256 .bf16).access (Rect.unit (s := S4x160x256) off S1x160x256.size inb)).write (Elt F) f
      (segAt m ρ (gdev c r) (zc c)) Finset.univ i = YG m ρ c i := by
  intro i hi
  rw [← rect_x h inb, ← Rect.map_emb_univ] at hi
  obtain ⟨x, -, rfl⟩ := Finset.mem_map.mp hi
  refine (View.write_emb_of_mem (v := (yM : Memref sig .tc .vmem S4x160x256 .bf16).access (Rect.unit (s := S4x160x256) off S1x160x256.size inb)) f
    (segAt m ρ (gdev c r) (zc c)) (Finset.mem_univ x)).trans ?_
  change segAt m ρ (gdev c r) (zc c) x = segAt m ρ (gdev c (((Rect.unit (s := S4x160x256) off S1x160x256.size inb).emb x : S4x160x256.Idx) 0)) (zc c)
    (inSlotX ((Rect.unit (s := S4x160x256) off S1x160x256.size inb).emb x))
  rw [emb_x0 h, emb_x1 h]
/-- A store into slot r of the destinations of place r. -/
theorem write_DG (c : Dev nD) (inb : ∀ a, off a + S1x1x512.size a ≤ S4x1x512.size a) (f : (cc0_scratch2 : Ref sig .tc).ty.Contents (Elt F)) :
    ∀ i ∈ dset r, ((gM : Memref sig .tc .vmem S4x1x512 .i32).access (Rect.unit (s := S4x1x512) off S1x1x512.size inb)).write (Elt F) f
      (k0_pay1 (dstg m ρ (gdev c r))) Finset.univ i = DG m ρ c i := by
  intro i hi
  rw [← rect_d h inb, ← Rect.map_emb_univ] at hi
  obtain ⟨x, -, rfl⟩ := Finset.mem_map.mp hi
  refine (View.write_emb_of_mem (v := (gM : Memref sig .tc .vmem S4x1x512 .i32).access (Rect.unit (s := S4x1x512) off S1x1x512.size inb)) f
    (k0_pay1 (dstg m ρ (gdev c r))) (Finset.mem_univ x)).trans ?_
  change k0_pay1 (dstg m ρ (gdev c r)) x = k0_pay1 (dstg m ρ (gdev c (((Rect.unit (s := S4x1x512) off S1x1x512.size inb).emb x : S4x1x512.Idx) 0)))
    (inSlotD ((Rect.unit (s := S4x1x512) off S1x1x512.size inb).emb x))
  rw [emb_d0 h, emb_d1 h]

end Views

/-! ## Transfers -/

abbrev srcX (off : Fin 3 → ℕ) (inb : ∀ a, off a + S1x160x256.size a ≤ S4x160x256.size a) : Memref sig .tc .vmem S160x256 .bf16 :=
  ((sM : Memref sig .tc .vmem S4x160x256 .bf16).slice (Rect.unit (s := S4x160x256) off S1x160x256.size inb) (fun _ => rfl)).squeeze S160x256 squeezes_S1x160x256_S160x256
abbrev dstX (off : Fin 3 → ℕ) (inb : ∀ a, off a + S1x160x256.size a ≤ S4x160x256.size a) : Memref sig .tc .vmem S160x256 .bf16 :=
  ((yM : Memref sig .tc .vmem S4x160x256 .bf16).slice (Rect.unit (s := S4x160x256) off S1x160x256.size inb) (fun _ => rfl)).squeeze S160x256 squeezes_S1x160x256_S160x256
abbrev rowD (off : Fin 3 → ℕ) (inb : ∀ a, off a + S1x1x512.size a ≤ S4x1x512.size a) : Memref sig .tc .vmem S1x512 .i32 :=
  ((gM : Memref sig .tc .vmem S4x1x512 .i32).slice (Rect.unit (s := S4x1x512) off S1x1x512.size inb) (fun _ => rfl)).squeeze S1x512 squeezes_S1x1x512_S1x512

theorem srcX_set {off : Fin 3 → ℕ} {r : Fin 4} (h : off = ![r.val, 0, 0]) (inb) : (srcX off inb).view.set = xset r :=
  (View.set_reshape _ _).trans ((View.set_slice_whole cc0_scratch0 _).trans (rect_x h inb))
theorem dstX_set {off : Fin 3 → ℕ} {r : Fin 4} (h : off = ![r.val, 0, 0]) (inb) : (dstX off inb).view.set = xset r :=
  (View.set_reshape _ _).trans ((View.set_slice_whole cc0_scratch1 _).trans (rect_x h inb))
theorem rowD_set {off : Fin 3 → ℕ} {r : Fin 4} (h : off = ![r.val, 0, 0]) (inb) : (rowD off inb).view.set = dset r :=
  (View.set_reshape _ _).trans ((View.set_slice_whole cc0_scratch2 _).trans (rect_d h inb))

/-- A slot is the elements under its squeezed slice. -/
theorem srcX_take (c : Dev nD) {off : Fin 3 → ℕ} {r : Fin 4} (h : off = ![r.val, 0, 0]) (inb) (f : Buf (Elt F) ((c : Thread nD τ).loc cc0_scratch0)) :
    segSlot c r f ⊢ ((srcX off inb).view.loc (c : Thread nD τ) ↦[(srcX off inb).view.set]{fullShare} f : sProp 𝕄) := by
  rw [srcX_set h]; exact BI.Entails.refl _
theorem dstX_take (c : Dev nD) {off : Fin 3 → ℕ} {r : Fin 4} (h : off = ![r.val, 0, 0]) (inb) (f : Buf (Elt F) ((c : Thread nD τ).loc cc0_scratch1)) :
    yslot c r f ⊢ ((dstX off inb).view.loc (c : Thread nD τ) ↦[(dstX off inb).view.set]{fullShare} f : sProp 𝕄) := by
  rw [dstX_set h]; exact BI.Entails.refl _
theorem rowD_take (c : Dev nD) (q : PosShare TreeShare) {off : Fin 3 → ℕ} {r : Fin 4} (h : off = ![r.val, 0, 0]) (inb) (f : Buf (Elt F) ((c : Thread nD τ).loc cc0_scratch2)) :
    dslot c r q f ⊢ ((rowD off inb).view.loc (c : Thread nD τ) ↦[(rowD off inb).view.set]{q} f : sProp 𝕄) := by
  rw [rowD_set h]; exact BI.Entails.refl _

/-- A block of rows landed: the target's landing buffer holds there what it comes to hold. -/
theorem landed_x {c n : Dev nD} {k : Fin 3} (hn : n = nx c k) {offs offd : Fin 3 → ℕ} (hs : offs = ![(zc n).val, 0, 0]) (hd : offd = ![(zc c).val, 0, 0]) (inbs inbd)
    (fd : (cc0_scratch1 : Ref sig .tc).ty.Contents (Elt F)) :
    ∀ i ∈ xset (zc c), (dstX offd inbd).view.write (Elt F) fd ((srcX offs inbs).view.read (Elt F) (SEG m ρ c)) Finset.univ i = YG m ρ n i := by
  intro i hi
  rw [← dstX_set hd inbd] at hi
  obtain ⟨x, -, rfl⟩ := Finset.mem_map.mp hi
  refine (View.write_emb_of_mem (v := (dstX offd inbd).view) fd _ (Finset.mem_univ x)).trans ?_
  have e1 := emb_x0 hs inbs (Shape.reshapeEquiv squeezes_S1x160x256_S160x256.numel_eq x)
  have e2 := emb_x1 hs inbs (Shape.reshapeEquiv squeezes_S1x160x256_S160x256.numel_eq x)
  have e3 := emb_x0 hd inbd (Shape.reshapeEquiv squeezes_S1x160x256_S160x256.numel_eq x)
  have e4 := emb_x1 hd inbd (Shape.reshapeEquiv squeezes_S1x160x256_S160x256.numel_eq x)
  have hg : gdev n (zc c) = c := by rw [hn, gdev_nx, gdev_zc]
  change segAt m ρ c (((Rect.unit (s := S4x160x256) offs S1x160x256.size inbs).emb (Shape.reshapeEquiv squeezes_S1x160x256_S160x256.numel_eq x) : S4x160x256.Idx) 0)
      (inSlotX ((Rect.unit (s := S4x160x256) offs S1x160x256.size inbs).emb (Shape.reshapeEquiv squeezes_S1x160x256_S160x256.numel_eq x)))
    = segAt m ρ (gdev n (((Rect.unit (s := S4x160x256) offd S1x160x256.size inbd).emb (Shape.reshapeEquiv squeezes_S1x160x256_S160x256.numel_eq x) : S4x160x256.Idx) 0)) (zc n)
      (inSlotX ((Rect.unit (s := S4x160x256) offd S1x160x256.size inbd).emb (Shape.reshapeEquiv squeezes_S1x160x256_S160x256.numel_eq x)))
  rw [e1, e2, e3, e4, hg]
/-- A row of destinations landed. -/
theorem landed_d {c n : Dev nD} {k : Fin 3} (hn : n = nx c k) {offs offd : Fin 3 → ℕ} (hs : offs = ![(zc c).val, 0, 0]) (hd : offd = ![(zc c).val, 0, 0]) (inbs inbd)
    (fd : (cc0_scratch2 : Ref sig .tc).ty.Contents (Elt F)) :
    ∀ i ∈ dset (zc c), (rowD offd inbd).view.write (Elt F) fd ((rowD offs inbs).view.read (Elt F) (DG m ρ c)) Finset.univ i = DG m ρ n i := by
  intro i hi
  rw [← rowD_set hd inbd] at hi
  obtain ⟨x, -, rfl⟩ := Finset.mem_map.mp hi
  refine (View.write_emb_of_mem (v := (rowD offd inbd).view) fd _ (Finset.mem_univ x)).trans ?_
  have e1 := emb_d0 hs inbs (Shape.reshapeEquiv squeezes_S1x1x512_S1x512.numel_eq x)
  have e2 := emb_d1 hs inbs (Shape.reshapeEquiv squeezes_S1x1x512_S1x512.numel_eq x)
  have e3 := emb_d0 hd inbd (Shape.reshapeEquiv squeezes_S1x1x512_S1x512.numel_eq x)
  have e4 := emb_d1 hd inbd (Shape.reshapeEquiv squeezes_S1x1x512_S1x512.numel_eq x)
  have hg : gdev n (zc c) = gdev c (zc c) := by rw [hn, gdev_nx]
  change k0_pay1 (dstg m ρ (gdev c (((Rect.unit (s := S4x1x512) offs S1x1x512.size inbs).emb (Shape.reshapeEquiv squeezes_S1x1x512_S1x512.numel_eq x) : S4x1x512.Idx) 0)))
      (inSlotD ((Rect.unit (s := S4x1x512) offs S1x1x512.size inbs).emb (Shape.reshapeEquiv squeezes_S1x1x512_S1x512.numel_eq x)))
    = k0_pay1 (dstg m ρ (gdev n (((Rect.unit (s := S4x1x512) offd S1x1x512.size inbd).emb (Shape.reshapeEquiv squeezes_S1x1x512_S1x512.numel_eq x) : S4x1x512.Idx) 0)))
      (inSlotD ((Rect.unit (s := S4x1x512) offd S1x1x512.size inbd).emb (Shape.reshapeEquiv squeezes_S1x1x512_S1x512.numel_eq x)))
  rw [e1, e2, e3, e4, hg]

/-! ## The shared records -/

/-- What stays for good: the invariant of every cell, and that every cell has reached round 0. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records (F := F) m ρ K) := by unfold records; infer_instance

theorem records_at (K : Dev nD × CI → ℕ) (ck : Dev nD × CI) :
    records m ρ K ⊢ iprop(cellInv ER (rd m ρ) (K ck) (kcell ck) ∗ reached ER (kcell ck) 0) := by
  unfold records
  exact BIClass.sep_mono (bigSep_elim (Finset.mem_univ ck)) (bigSep_elim (Finset.mem_univ ck))

/-! ## The rules -/

section Rules

variable (K : Dev nD × CI → ℕ)

/-- A raise of the barrier of `nx c j`: the slot of its place in the two landing buffers goes with it. -/
theorem wp_raise_bar (c n : Dev nD) (j : Fin 3) (hn : n = nx c j) {O₁ O : CellTallies nD τ sig Unit} (hO : O₁ = O + tallyAt (barCell (nx c j)) () 1)
    {W : Waits sig Unit} {α : Type} {Q : α → sProp 𝕄} {k : PUnit → Prog (TpuEff nD τ sig (Elt F) Λ₀ .tc) α} {w : ℕ} (hw : w = 1)
    (fy : Buf (Elt F) ((c : Thread nD τ).loc cc0_scratch1)) (fg : Buf (Elt F) ((c : Thread nD τ).loc cc0_scratch2)) :
    iprop(records m ρ K ∗ owes (c : Thread nD τ) O₁ W ∗ dutyTok ER (barCell (nx c j)) 0 j.rev
        ∗ yslot c (zc (nx c j)) fy ∗ dslot c (zc (nx c j)) fullShare fg)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS w) k) Q) := by
  subst hn hw
  iintro ⟨#HR, HO, Ht, Hy, Hd⟩
  ihave Hc := (records_at m ρ K (nx c j, none)) $$ HR
  icases Hc with ⟨#HI, #Hr⟩
  iapply (Rounds.wp_signal 𝒱₀ ER (rd m ρ) (c : Thread nD τ) none (dst := (nx c j : Thread nD τ)) (κ := K (nx c j, none))
      (d := j.rev) (by rw [duties_bar]; exact Finset.mem_univ _) (amount_bar m ρ (nx c j) j.rev) () O hO)
  isplitr; · iexact HI
  isplitl [HO]; · iexact HO
  isplitl [Ht]; · iexact Ht
  isplitl [Hy Hd]
  · rw [payload_bar]; unfold barPay; rw [nx_nx]
    isplitl [Hy]; · iexists fy; iexact Hy
    iexists fg; iexact Hd
  iexact Hr

/-- The wait for the barrier: on each other device of the group, the slot of c's place in the two landing buffers. -/
theorem wp_wait_bar (c : Dev nD) {W : Waits sig Unit} {α : Type} {Q : α → sProp 𝕄} {k : PUnit → Prog (TpuEff nD τ sig (Elt F) Λ₀ .tc) α} {w : ℕ} (hw : w = 3) :
    iprop(records m ρ K ∗ cred (tallyAt (barCell c) () 3) ∗ owes (c : Thread nD τ) (owD0 c) W ∗ levAts L lv ∗ atPos ER (barCell c) 0 ∅ 0)
      ⊢ iprop((iprop(owes (c : Thread nD τ) (owD0 c) (insert (SemLoc.reg barS, ()) W) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  iintro ⟨#HR, Hc, HO, #Hlev, Hat⟩ Hk
  ihave Hcc := (records_at m ρ K (c, none)) $$ HR
  icases Hcc with ⟨#HI, #Hr⟩
  iapply (Rounds.wp_wait_rest_token 𝒱₀ ER (rd m ρ) (c : Thread nD τ) none (κ := K (c, none))
      (wpE_semWait_eq 𝒱₀ (c : Thread nD τ) none Set.univ) (Set.mem_univ _) () (O := owD0 c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iexact HI
    iexact Hat
  iapply Hk
  isplitl [HO]; · iexact HO
  isplitl [Hz]; · iexact Hz
  iexact Hp

/-- A wait on a DMA cell, owing nothing: what the cell hands over, and the cell closed at zero. -/
theorem wp_wait_x (c : Dev nD) (a : Fin 4) (j : Fin 3) {sm : DmaSem sig} (hsm : sm = xsem a j) {sp sp' : Space} {s s' : Shape} {e e' : EltTy}
    {src : Memref sig .tc sp' s' e'} {dst : Memref sig .tc sp s e} {hsrc : src.view.WordExact} {hdst : dst.view.WordExact}
    (ha : dst.view.dmaCredit = xAmt a) {α : Type} {Q : α → sProp 𝕄} {k : PUnit → Prog (TpuEff nD τ sig (Elt F) Λ₀ .tc) α} :
    iprop(records m ρ K ∗ cred (tallyAt (xCell c a j) () (xAmt a)) ∗ (∃ W, owes (c : Thread nD τ) 0 W) ∗ atPos ER (xCell c a j) 0 ∅ 0)
      ⊢ iprop((iprop((∃ W, owes (c : Thread nD τ) 0 W) ∗ semVal (xCell c a j) 0 ∗ xPay m ρ c a j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  rw [← ha]
  iintro ⟨#HR, Hc, ⟨%W, HO⟩, Hat⟩ Hk
  ihave Hcc := (records_at m ρ K (c, some (a, j))) $$ HR
  icases Hcc with ⟨#HI, #Hr⟩
  iapply (Rounds.wp_wait_rest_token 𝒱₀ ER (rd m ρ) (c : Thread nD τ) none (κ := K (c, some (a, j)))
      (wpE_waitDma2_eq 𝒱₀ (c : Thread nD τ) none Set.univ) (Set.mem_univ _) () (O := 0) (W := W) (R := 0) (m := 0) (T := ∅)
      (by rw [Nat.zero_add, expect_x, ha])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_x m ρ c a j)) $$ Hpay
  imod (Rounds.cell_close ER (rd m ρ) (Set.mem_univ (K (c, some (a, j)))) (fun h => h) (R := 0 + 1) (duties_later m ρ (xCell c a j))) $$ [Hat] with Hz
  · isplitr; · iexact HI
    iexact Hat
  iapply Hk
  isplitl [HO]; · iexists _; iexact HO
  isplitl [Hz]; · iexact Hz
  iexact Hp

/-- Transfer j of rows: the slot packed for the target's place, into the slot of c's place of the target's landing buffer. -/
theorem wp_send_x (c n : Dev nD) (j : Fin 3) (hn : n = nx c j) {offs offd : Fin 3 → ℕ} (hs : offs = ![(zc (nx c j)).val, 0, 0]) (hd : offd = ![(zc c).val, 0, 0])
    {inbs inbd} {sS sR : DmaSem sig} (hS : sS = xsem 0 j) (hR : sR = xsem 1 j)
    {hsc : (dstX offd inbd).view.ref.isScScratch = false} {hsrc : (srcX offs inbs).view.WordExact} {hdst : (dstX offd inbd).view.WordExact}
    {hsem : DmaTarget.Typed .vmem (.dma sR) (.remote (Dev.tc n : Thread nD τ) (dstX offd inbd) (.dma sS) hsc)}
    {α : Type} {Q : α → sProp 𝕄} {k : PUnit → Prog (TpuEff nD τ sig (Elt F) Λ₀ .tc) α} {O₁ O : CellTallies nD τ sig Unit} (hO : O₁ = O + tallyAt (xCell (nx c j) 1 j) () (xAmt 1))
    {W : Waits sig Unit} (fd : Buf (Elt F) ((nx c j : Thread nD τ).loc cc0_scratch1)) :
    iprop(records m ρ K ∗ segSlot c (zc (nx c j)) (SEG m ρ c) ∗ yslot (nx c j) (zc c) fd ∗ owes (c : Thread nD τ) O₁ W
        ∗ dutyTok ER (xCell c 0 j) 0 0 ∗ dutyTok ER (xCell (nx c j) 1 j) 0 0)
      ⊢ iprop((iprop(cred (tallyAt (xCell c 0 j) () (xAmt 0)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcX offs inbs) (.remote (Dev.tc n : Thread nD τ) (dstX offd inbd) (.dma sS) hsc) (.dma sR) hsrc hdst hsem) k) Q) := by
  subst hn hS hR
  iintro ⟨#HR, Hs, Hy, HO, Ht1, Ht2⟩
  ihave Hc1 := (records_at m ρ K (c, some (0, j))) $$ HR
  icases Hc1 with ⟨#HI1, #Hr1⟩
  ihave Hc2 := (records_at m ρ K (nx c j, some (1, j))) $$ HR
  icases Hc2 with ⟨#HI2, #Hr2⟩
  iapply (Rounds.wp_send_pointsTo 𝒱₀ ER (rd m ρ) (c : Thread nD τ) none (κ₁ := K (c, some (0, j))) (κ₂ := K (nx c j, some (1, j)))
    (c' := (nx c j : Thread nD τ)) (src := srcX offs inbs) (dst := dstX offd inbd) (q := fullShare) (fs := SEG m ρ c)
    (r₁ := 0) (r₂ := 0) (d₁ := 0) (d₂ := 0) (fd := fd)
    (by rw [duties_x]; exact Finset.mem_singleton_self _) (by rw [duties_x]; exact Finset.mem_singleton_self _)
    () () (xAmt 1) rfl ((amount_x m ρ c 0 j 0).trans rfl) (amount_x m ρ (nx c j) 1 j 0) O hO (W := W)
    (by rw [payload_x, srcX_set hs]; exact BI.Entails.refl _)
    (by rw [payload_x, dstX_set hd, pointsTo_congr (landed_x m ρ rfl hs hd inbs inbd fd)]; unfold xPay; rw [nx_nx]; exact BI.Entails.refl _))
  isplitr; · iexact HI1
  isplitr; · iexact HI2
  isplitl [Hs]; · iapply (srcX_take c hs inbs (SEG m ρ c)) $$ Hs
  isplitl [Hy]; · iapply (dstX_take (nx c j) hd inbd fd) $$ Hy
  isplitl [HO]; · iexact HO
  isplitl [Ht1]; · iexact Ht1
  isplitr; · iexact Hr1
  isplitl [Ht2]; · iexact Ht2
  iexact Hr2

/-- Transfer j of destinations: c's own row, at share j, into the slot of c's place of the target's landing buffer. -/
theorem wp_send_d (c n : Dev nD) (j : Fin 3) (hn : n = nx c j) {offs offd : Fin 3 → ℕ} (hs : offs = ![(zc c).val, 0, 0]) (hd : offd = ![(zc c).val, 0, 0])
    {inbs inbd} {sS sR : DmaSem sig} (hS : sS = xsem 2 j) (hR : sR = xsem 3 j)
    {hsc : (rowD offd inbd).view.ref.isScScratch = false} {hsrc : (rowD offs inbs).view.WordExact} {hdst : (rowD offd inbd).view.WordExact}
    {hsem : DmaTarget.Typed .vmem (.dma sR) (.remote (Dev.tc n : Thread nD τ) (rowD offd inbd) (.dma sS) hsc)}
    {α : Type} {Q : α → sProp 𝕄} {k : PUnit → Prog (TpuEff nD τ sig (Elt F) Λ₀ .tc) α} {O₁ O : CellTallies nD τ sig Unit} (hO : O₁ = O + tallyAt (xCell (nx c j) 3 j) () (xAmt 3))
    {W : Waits sig Unit} (fd : Buf (Elt F) ((nx c j : Thread nD τ).loc cc0_scratch2)) :
    iprop(records m ρ K ∗ dslot c (zc c) (shr j) (DG m ρ c) ∗ dslot (nx c j) (zc c) fullShare fd ∗ owes (c : Thread nD τ) O₁ W
        ∗ dutyTok ER (xCell c 2 j) 0 0 ∗ dutyTok ER (xCell (nx c j) 3 j) 0 0)
      ⊢ iprop((iprop(cred (tallyAt (xCell c 2 j) () (xAmt 2)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowD offs inbs) (.remote (Dev.tc n : Thread nD τ) (rowD offd inbd) (.dma sS) hsc) (.dma sR) hsrc hdst hsem) k) Q) := by
  subst hn hS hR
  iintro ⟨#HR, Hs, Hy, HO, Ht1, Ht2⟩
  ihave Hc1 := (records_at m ρ K (c, some (2, j))) $$ HR
  icases Hc1 with ⟨#HI1, #Hr1⟩
  ihave Hc2 := (records_at m ρ K (nx c j, some (3, j))) $$ HR
  icases Hc2 with ⟨#HI2, #Hr2⟩
  iapply (Rounds.wp_send_pointsTo 𝒱₀ ER (rd m ρ) (c : Thread nD τ) none (κ₁ := K (c, some (2, j))) (κ₂ := K (nx c j, some (3, j)))
    (c' := (nx c j : Thread nD τ)) (src := rowD offs inbs) (dst := rowD offd inbd) (q := shr j) (fs := DG m ρ c)
    (r₁ := 0) (r₂ := 0) (d₁ := 0) (d₂ := 0) (fd := fd)
    (by rw [duties_x]; exact Finset.mem_singleton_self _) (by rw [duties_x]; exact Finset.mem_singleton_self _)
    () () (xAmt 3) rfl ((amount_x m ρ c 2 j 0).trans rfl) (amount_x m ρ (nx c j) 3 j 0) O hO (W := W)
    (by rw [payload_x, rowD_set hs]; exact BI.Entails.refl _)
    (by rw [payload_x, rowD_set hd, pointsTo_congr (landed_d m ρ rfl hs hd inbs inbd fd)]; unfold xPay; rw [nx_nx]; exact BI.Entails.refl _))
  isplitr; · iexact HI1
  isplitr; · iexact HI2
  isplitl [Hs]; · iapply (rowD_take c (shr j) hs inbs (DG m ρ c)) $$ Hs
  isplitl [Hy]; · iapply (rowD_take (nx c j) fullShare hd inbd fd) $$ Hy
  isplitl [HO]; · iexact HO
  isplitl [Ht1]; · iexact Ht1
  isplitr; · iexact Hr1
  isplitl [Ht2]; · iexact Ht2
  iexact Hr2

/-- A load of a slot of a buffer of rows, at its contents. -/
theorem wp_load_seg (c : Dev nD) (r : Fin 4) {off : Fin 3 → ℕ} (h : off = ![r.val, 0, 0]) {inb : ∀ a, off a + S1x160x256.size a ≤ S4x160x256.size a}
    {hl : (sM : Memref sig .tc .vmem S4x160x256 .bf16).view.LoadsAt (Rect.unit (s := S4x160x256) off S1x160x256.size inb).toLoadRect}
    {α : Type} {Q : α → sProp 𝕄} {k : (S1x160x256.Idx → Elt F .bf16) → Prog (TpuEff nD τ sig (Elt F) Λ₀ .tc) α} :
    segSlot c r (SEG m ρ c) ⊢ iprop((segSlot c r (SEG m ρ c) -∗ wp frame (wpE (defs₀ (F := F)) 𝒱₀ (c : Thread nD τ) none) Set.univ (k (segAt m ρ c r)) Q)
      -∗ wp frame (wpE (defs₀ (F := F)) 𝒱₀ (c : Thread nD τ) none) Set.univ (.op (.load sM (Rect.unit (s := S4x160x256) off S1x160x256.size inb).toLoadRect hl) k) Q) := by
  have h1 := wp_load (Γ := .empty) (defs := defs₀ (F := F)) 𝒱₀ (c : Thread nD τ) none Set.univ (m := sM) (r := (Rect.unit (s := S4x160x256) off S1x160x256.size inb).toLoadRect) (hl := hl) (k := k) (Q := Q)
    (q := fullShare) (f := SEG m ρ c) (S := xset r) (by rw [← rect_x h inb]; exact (Finset.map_refl).le)
  rw [read_SEG m ρ h c inb] at h1
  exact h1
theorem wp_load_y (c : Dev nD) (r : Fin 4) {off : Fin 3 → ℕ} (h : off = ![r.val, 0, 0]) {inb : ∀ a, off a + S1x160x256.size a ≤ S4x160x256.size a}
    {hl : (yM : Memref sig .tc .vmem S4x160x256 .bf16).view.LoadsAt (Rect.unit (s := S4x160x256) off S1x160x256.size inb).toLoadRect}
    {α : Type} {Q : α → sProp 𝕄} {k : (S1x160x256.Idx → Elt F .bf16) → Prog (TpuEff nD τ sig (Elt F) Λ₀ .tc) α} :
    yslot c r (YG m ρ c) ⊢ iprop((yslot c r (YG m ρ c) -∗ wp frame (wpE (defs₀ (F := F)) 𝒱₀ (c : Thread nD τ) none) Set.univ (k (segAt m ρ (gdev c r) (zc c))) Q)
      -∗ wp frame (wpE (defs₀ (F := F)) 𝒱₀ (c : Thread nD τ) none) Set.univ (.op (.load yM (Rect.unit (s := S4x160x256) off S1x160x256.size inb).toLoadRect hl) k) Q) := by
  have h1 := wp_load (Γ := .empty) (defs := defs₀ (F := F)) 𝒱₀ (c : Thread nD τ) none Set.univ (m := yM) (r := (Rect.unit (s := S4x160x256) off S1x160x256.size inb).toLoadRect) (hl := hl) (k := k) (Q := Q)
    (q := fullShare) (f := YG m ρ c) (S := xset r) (by rw [← rect_x h inb]; exact (Finset.map_refl).le)
  rw [read_YG m ρ h c inb] at h1
  exact h1
theorem wp_load_d (c : Dev nD) (r : Fin 4) (q : PosShare TreeShare) {off : Fin 3 → ℕ} (h : off = ![r.val, 0, 0]) {inb : ∀ a, off a + S1x1x512.size a ≤ S4x1x512.size a}
    {hl : (gM : Memref sig .tc .vmem S4x1x512 .i32).view.LoadsAt (Rect.unit (s := S4x1x512) off S1x1x512.size inb).toLoadRect}
    {α : Type} {Q : α → sProp 𝕄} {k : (S1x1x512.Idx → Elt F .i32) → Prog (TpuEff nD τ sig (Elt F) Λ₀ .tc) α} :
    dslot c r q (DG m ρ c) ⊢ iprop((dslot c r q (DG m ρ c) -∗ wp frame (wpE (defs₀ (F := F)) 𝒱₀ (c : Thread nD τ) none) Set.univ (k (k0_pay1 (dstg m ρ (gdev c r)))) Q)
      -∗ wp frame (wpE (defs₀ (F := F)) 𝒱₀ (c : Thread nD τ) none) Set.univ (.op (.load gM (Rect.unit (s := S4x1x512) off S1x1x512.size inb).toLoadRect hl) k) Q) := by
  have h1 := wp_load (Γ := .empty) (defs := defs₀ (F := F)) 𝒱₀ (c : Thread nD τ) none Set.univ (m := gM) (r := (Rect.unit (s := S4x1x512) off S1x1x512.size inb).toLoadRect) (hl := hl) (k := k) (Q := Q)
    (q := q) (f := DG m ρ c) (S := dset r) (by rw [← rect_d h inb]; exact (Finset.map_refl).le)
  rw [read_DG m ρ h c inb] at h1
  exact h1

/-- A load of a slot whose value is not used after. -/
theorem wp_peek_seg (c : Dev nD) (r : Fin 4) (f) {off : Fin 3 → ℕ} (h : off = ![r.val, 0, 0]) {inb : ∀ a, off a + S1x160x256.size a ≤ S4x160x256.size a}
    {hl : (sM : Memref sig .tc .vmem S4x160x256 .bf16).view.LoadsAt (Rect.unit (s := S4x160x256) off S1x160x256.size inb).toLoadRect}
    {α : Type} {Q : α → sProp 𝕄} {k : Prog (TpuEff nD τ sig (Elt F) Λ₀ .tc) α} :
    segSlot c r f ⊢ iprop((segSlot c r f -∗ wp frame (wpE (defs₀ (F := F)) 𝒱₀ (c : Thread nD τ) none) Set.univ k Q)
      -∗ wp frame (wpE (defs₀ (F := F)) 𝒱₀ (c : Thread nD τ) none) Set.univ (.op (.load sM (Rect.unit (s := S4x160x256) off S1x160x256.size inb).toLoadRect hl) fun _ => k) Q) :=
  wp_load (defs := defs₀ (F := F)) 𝒱₀ (c : Thread nD τ) none Set.univ (m := sM) (r := (Rect.unit (s := S4x160x256) off S1x160x256.size inb).toLoadRect) (hl := hl) (k := fun _ => k) (Q := Q)
    (q := fullShare) (f := f) (S := xset r) (by rw [← rect_x h inb]; exact (Finset.map_refl).le)
theorem wp_peek_y (c : Dev nD) (r : Fin 4) (f) {off : Fin 3 → ℕ} (h : off = ![r.val, 0, 0]) {inb : ∀ a, off a + S1x160x256.size a ≤ S4x160x256.size a}
    {hl : (yM : Memref sig .tc .vmem S4x160x256 .bf16).view.LoadsAt (Rect.unit (s := S4x160x256) off S1x160x256.size inb).toLoadRect}
    {α : Type} {Q : α → sProp 𝕄} {k : Prog (TpuEff nD τ sig (Elt F) Λ₀ .tc) α} :
    yslot c r f ⊢ iprop((yslot c r f -∗ wp frame (wpE (defs₀ (F := F)) 𝒱₀ (c : Thread nD τ) none) Set.univ k Q)
      -∗ wp frame (wpE (defs₀ (F := F)) 𝒱₀ (c : Thread nD τ) none) Set.univ (.op (.load yM (Rect.unit (s := S4x160x256) off S1x160x256.size inb).toLoadRect hl) fun _ => k) Q) :=
  wp_load (defs := defs₀ (F := F)) 𝒱₀ (c : Thread nD τ) none Set.univ (m := yM) (r := (Rect.unit (s := S4x160x256) off S1x160x256.size inb).toLoadRect) (hl := hl) (k := fun _ => k) (Q := Q)
    (q := fullShare) (f := f) (S := xset r) (by rw [← rect_x h inb]; exact (Finset.map_refl).le)
theorem wp_peek_d (c : Dev nD) (r : Fin 4) (f) {off : Fin 3 → ℕ} (h : off = ![r.val, 0, 0]) {inb : ∀ a, off a + S1x1x512.size a ≤ S4x1x512.size a}
    {hl : (gM : Memref sig .tc .vmem S4x1x512 .i32).view.LoadsAt (Rect.unit (s := S4x1x512) off S1x1x512.size inb).toLoadRect}
    {α : Type} {Q : α → sProp 𝕄} {k : Prog (TpuEff nD τ sig (Elt F) Λ₀ .tc) α} :
    dslot c r fullShare f ⊢ iprop((dslot c r fullShare f -∗ wp frame (wpE (defs₀ (F := F)) 𝒱₀ (c : Thread nD τ) none) Set.univ k Q)
      -∗ wp frame (wpE (defs₀ (F := F)) 𝒱₀ (c : Thread nD τ) none) Set.univ (.op (.load gM (Rect.unit (s := S4x1x512) off S1x1x512.size inb).toLoadRect hl) fun _ => k) Q) :=
  wp_load (defs := defs₀ (F := F)) 𝒱₀ (c : Thread nD τ) none Set.univ (m := gM) (r := (Rect.unit (s := S4x1x512) off S1x1x512.size inb).toLoadRect) (hl := hl) (k := fun _ => k) (Q := Q)
    (q := fullShare) (f := f) (S := dset r) (by rw [← rect_d h inb]; exact (Finset.map_refl).le)

/-- A store of a slot's last contents. -/
theorem wp_store_seg (c : Dev nD) (r : Fin 4) (f) {off : Fin 3 → ℕ} (h : off = ![r.val, 0, 0]) {inb : ∀ a, off a + S1x160x256.size a ≤ S4x160x256.size a}
    {w : S1x160x256.Idx → Elt F .bf16} (hw : w = segAt m ρ c r) {hx hm}
    {α : Type} {Q : α → sProp 𝕄} {k : PUnit → Prog (TpuEff nD τ sig (Elt F) Λ₀ .tc) α} :
    segSlot c r f ⊢ iprop((segSlot c r (SEG m ρ c) -∗ wp frame (wpE (defs₀ (F := F)) 𝒱₀ (c : Thread nD τ) none) Set.univ (k ⟨⟩) Q)
      -∗ wp frame (wpE (defs₀ (F := F)) 𝒱₀ (c : Thread nD τ) none) Set.univ (.op (.store sM (Rect.unit (s := S4x160x256) off S1x160x256.size inb) w Finset.univ hx hm) k) Q) := by
  subst hw
  have h1 := wp_store (Γ := .empty) (defs := defs₀ (F := F)) 𝒱₀ (c : Thread nD τ) none Set.univ (m := sM) (r := Rect.unit (s := S4x160x256) off S1x160x256.size inb) (w := segAt m ρ c r) (Mk := Finset.univ)
    (hx := hx) (hm := hm) (k := k) (Q := Q) (f := f) (S := xset r) (by rw [← rect_x h inb]; exact (View.set_slice_whole cc0_scratch0 _).le)
  have e : (((sM : Memref sig .tc .vmem S4x160x256 .bf16).access (Rect.unit (s := S4x160x256) off S1x160x256.size inb)).loc (c : Thread nD τ) ↦[xset r]{fullShare}
      (((sM : Memref sig .tc .vmem S4x160x256 .bf16).access (Rect.unit (s := S4x160x256) off S1x160x256.size inb)).write (Elt F) f (segAt m ρ c r) Finset.univ) : sProp 𝕄) = segSlot c r (SEG m ρ c) :=
    pointsTo_congr (write_SEG m ρ h c inb f)
  refine h1.trans ?_
  iintro H Hk
  iapply H
  iintro H
  iapply Hk
  iapply (Entails.of_eq e)
  iexact H
theorem wp_store_y (c : Dev nD) (r : Fin 4) (f) {off : Fin 3 → ℕ} (h : off = ![r.val, 0, 0]) {inb : ∀ a, off a + S1x160x256.size a ≤ S4x160x256.size a}
    {w : S1x160x256.Idx → Elt F .bf16} (hw : w = segAt m ρ (gdev c r) (zc c)) {hx hm}
    {α : Type} {Q : α → sProp 𝕄} {k : PUnit → Prog (TpuEff nD τ sig (Elt F) Λ₀ .tc) α} :
    yslot c r f ⊢ iprop((yslot c r (YG m ρ c) -∗ wp frame (wpE (defs₀ (F := F)) 𝒱₀ (c : Thread nD τ) none) Set.univ (k ⟨⟩) Q)
      -∗ wp frame (wpE (defs₀ (F := F)) 𝒱₀ (c : Thread nD τ) none) Set.univ (.op (.store yM (Rect.unit (s := S4x160x256) off S1x160x256.size inb) w Finset.univ hx hm) k) Q) := by
  subst hw
  have h1 := wp_store (Γ := .empty) (defs := defs₀ (F := F)) 𝒱₀ (c : Thread nD τ) none Set.univ (m := yM) (r := Rect.unit (s := S4x160x256) off S1x160x256.size inb) (w := segAt m ρ (gdev c r) (zc c)) (Mk := Finset.univ)
    (hx := hx) (hm := hm) (k := k) (Q := Q) (f := f) (S := xset r) (by rw [← rect_x h inb]; exact (View.set_slice_whole cc0_scratch1 _).le)
  have e : (((yM : Memref sig .tc .vmem S4x160x256 .bf16).access (Rect.unit (s := S4x160x256) off S1x160x256.size inb)).loc (c : Thread nD τ) ↦[xset r]{fullShare}
      (((yM : Memref sig .tc .vmem S4x160x256 .bf16).access (Rect.unit (s := S4x160x256) off S1x160x256.size inb)).write (Elt F) f (segAt m ρ (gdev c r) (zc c)) Finset.univ) : sProp 𝕄) = yslot c r (YG m ρ c) :=
    pointsTo_congr (write_YG m ρ h c inb f)
  refine h1.trans ?_
  iintro H Hk
  iapply H
  iintro H
  iapply Hk
  iapply (Entails.of_eq e)
  iexact H
theorem wp_store_d (c : Dev nD) (r : Fin 4) (f) {off : Fin 3 → ℕ} (h : off = ![r.val, 0, 0]) {inb : ∀ a, off a + S1x1x512.size a ≤ S4x1x512.size a}
    {w : S1x1x512.Idx → Elt F .i32} (hw : w = k0_pay1 (dstg m ρ (gdev c r))) {hx hm}
    {α : Type} {Q : α → sProp 𝕄} {k : PUnit → Prog (TpuEff nD τ sig (Elt F) Λ₀ .tc) α} :
    dslot c r fullShare f ⊢ iprop((dslot c r fullShare (DG m ρ c) -∗ wp frame (wpE (defs₀ (F := F)) 𝒱₀ (c : Thread nD τ) none) Set.univ (k ⟨⟩) Q)
      -∗ wp frame (wpE (defs₀ (F := F)) 𝒱₀ (c : Thread nD τ) none) Set.univ (.op (.store gM (Rect.unit (s := S4x1x512) off S1x1x512.size inb) w Finset.univ hx hm) k) Q) := by
  subst hw
  have h1 := wp_store (Γ := .empty) (defs := defs₀ (F := F)) 𝒱₀ (c : Thread nD τ) none Set.univ (m := gM) (r := Rect.unit (s := S4x1x512) off S1x1x512.size inb) (w := k0_pay1 (dstg m ρ (gdev c r))) (Mk := Finset.univ)
    (hx := hx) (hm := hm) (k := k) (Q := Q) (f := f) (S := dset r) (by rw [← rect_d h inb]; exact (View.set_slice_whole cc0_scratch2 _).le)
  have e : (((gM : Memref sig .tc .vmem S4x1x512 .i32).access (Rect.unit (s := S4x1x512) off S1x1x512.size inb)).loc (c : Thread nD τ) ↦[dset r]{fullShare}
      (((gM : Memref sig .tc .vmem S4x1x512 .i32).access (Rect.unit (s := S4x1x512) off S1x1x512.size inb)).write (Elt F) f (k0_pay1 (dstg m ρ (gdev c r))) Finset.univ) : sProp 𝕄) = dslot c r fullShare (DG m ρ c) :=
    pointsTo_congr (write_DG m ρ h c inb f)
  refine h1.trans ?_
  iintro H Hk
  iapply H
  iintro H
  iapply Hk
  iapply (Entails.of_eq e)
  iexact H

end Rules

end Cert.A2A

end
-- ==== Proof.Body.lean ====
/-
# The exchange of rows over the z axis: the body of the kernel

The body is run once, at a symbolic device c, over any float values. It is followed operation by operation; every buffer's contents are stated.
-/
module

public import proofs.«01_k».proof.Proof.Steps
public import proofs.«01_k».proof.Proof.Gen.KernelIdeal.Points
public import Idealize.ShloMosaic.Lib.Pipeline.Value

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The value of a run -/

/-- The place of c, as the kernel computes it. -/
abbrev zW (c : Dev nD) : BitVec 32 := Scalar.remsi (Scalar.divsi (Dev.word c) 1#32) 4#32

/-- Row i and row j of a matrix of 512 rows and 160 columns. -/
abbrev rowIx : IVec S512x160 32 := iota .tc S512x160 32 [0] iota_S512x160_d0_w32
abbrev colIx : IVec S512x160 32 := iota .tc S512x160 32 [1] iota_S512x160_d1_w32

/-- The destinations of place s of c's group, as they lie in c's landing buffer. -/
abbrev dAt (c : Dev nD) (s : Fin 4) : IVec S1x1x512 32 := k0_pay1 (dstg m ρ (gdev c s))
/-- The block that place s of c's group packed for c. -/
abbrev segTo (c : Dev nD) (s : Fin 4) : FVec F S1x160x256 .bf16 := segAt m ρ (gdev c s) (zc c)

/-- How many rows the first one, two, three places send to c. -/
abbrev pre1 (c : Dev nD) : BitVec 32 := Scalar.addi 0#32 (extractAt ![0, 0, 0] (k0_pay12 (F := F) (zW c) (dAt m ρ c 0)) inpos_S1x1x1_p0_0_0)
abbrev pre2 (c : Dev nD) : BitVec 32 := Scalar.addi (pre1 m ρ c) (extractAt ![0, 0, 0] (k0_pay13 (F := F) (zW c) (dAt m ρ c 1)) inpos_S1x1x1_p0_0_0)
abbrev pre3 (c : Dev nD) : BitVec 32 := Scalar.addi (pre2 m ρ c) (extractAt ![0, 0, 0] (k0_pay14 (F := F) (zW c) (dAt m ρ c 2)) inpos_S1x1x1_p0_0_0)

/-- The sum after c's own block, and after each of the three received. -/
abbrev acc0 (c : Dev nD) : FVec F S512x256 .f32 :=
  k0_pay18 k0_pay15 (k0_pay16 (zW c) rowIx colIx (pre1 m ρ c) (dAt m ρ c 1) (dAt m ρ c 2)) (k0_pay17 (segTo m ρ c (zc c)))
abbrev acc1 (c : Dev nD) : FVec F S512x256 .f32 :=
  k0_pay20 (acc0 m ρ c) (k0_pay19 (zW c) rowIx colIx (pre1 m ρ c) (pre2 m ρ c) (pre3 m ρ c)) (segTo m ρ c (zc (nx c 0)))
abbrev acc2 (c : Dev nD) : FVec F S512x256 .f32 :=
  k0_pay22 (acc1 m ρ c) (k0_pay21 (zW c) rowIx colIx (pre1 m ρ c) (pre2 m ρ c) (pre3 m ρ c)) (segTo m ρ c (zc (nx c 2)))
/-- The result of device c. -/
def outAt (c : Dev nD) : FVec F S512x256 .f32 :=
  k0_pay24 rowIx (acc2 m ρ c) (k0_pay23 (zW c) colIx (pre1 m ρ c) (pre2 m ρ c) (pre3 m ρ c)) (segTo m ρ c (zc (nx c 1)))

/-! ## What the body starts from and ends with -/

/-- For each k: the positions of c's four DMA cells of index k, the duties c pays, and the credits of its two receive cells. -/
def perK (c : Dev nD) (k : Fin 3) : sProp 𝕄 :=
  iprop((atPos ER (xCell c 0 k) 0 ∅ 0 ∗ atPos ER (xCell c 1 k) 0 ∅ 0 ∗ atPos ER (xCell c 2 k) 0 ∅ 0 ∗ atPos ER (xCell c 3 k) 0 ∅ 0)
    ∗ (dutyTok ER (barCell (nx c k)) 0 k.rev ∗ dutyTok ER (xCell c 0 k) 0 0 ∗ dutyTok ER (xCell (nx c k) 1 k) 0 0
        ∗ dutyTok ER (xCell c 2 k) 0 0 ∗ dutyTok ER (xCell (nx c k) 3 k) 0 0))

/-- The ghost state of the exchange that device c starts from. -/
def ghost (K : Dev nD × CI → ℕ) (c : Dev nD) : sProp 𝕄 :=
  iprop(records m ρ K ∗ atPos ER (barCell c) 0 ∅ 0 ∗ perK c 0 ∗ perK c 1 ∗ perK c 2)

/-- The credits that device c waits with. -/
def credK (c : Dev nD) (k : Fin 3) : sProp 𝕄 :=
  iprop(cred (tallyAt (xCell c 1 k) () (xAmt 1)) ∗ cred (tallyAt (xCell c 3 k) () (xAmt 3)))
def creds (c : Dev nD) : sProp 𝕄 := iprop(cred (tallyAt (barCell c) () 3) ∗ credK c 0 ∗ credK c 1 ∗ credK c 2)

def start (c : Dev nD) : sProp 𝕄 := iprop((∃ K, ghost m ρ K c) ∗ creds c ∗ levAts L lv)

/-- The three scratch buffers, at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

/-- The twelve DMA cells at zero. -/
def zeros (c : Dev nD) : sProp 𝕄 :=
  iprop((semVal (xCell c 0 0) 0 ∗ semVal (xCell c 0 1) 0 ∗ semVal (xCell c 0 2) 0) ∗ (semVal (xCell c 1 0) 0 ∗ semVal (xCell c 1 1) 0 ∗ semVal (xCell c 1 2) 0)
    ∗ (semVal (xCell c 2 0) 0 ∗ semVal (xCell c 2 1) 0 ∗ semVal (xCell c 2 2) 0) ∗ (semVal (xCell c 3 0) 0 ∗ semVal (xCell c 3 1) 0 ∗ semVal (xCell c 3 2) 0))

def Φ₀ (c : Dev nD) : sProp 𝕄 := iprop(start m ρ c ∗ scratch c)
def Φ₁ (c : Dev nD) : sProp 𝕄 := iprop(scratch c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents X. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ c ∗ (dats m ρ 0 c).owesAt () t0_0.succ ∗ stg c cc0_stg0_0 (xstg m ρ c) ∗ stg c cc0_stg1_0 (dstg m ρ c) ∗ stg c cc0_stg2_0 (outAt m ρ c))

/-! ## Small facts -/

theorem hz2 : (![0, 0] : Fin 2 → Nat) = fun _ => 0 := funext fun a => by fin_cases a <;> rfl
theorem hz1 : (![0] : Fin 1 → Nat) = fun _ => 0 := funext fun a => by fin_cases a; rfl

abbrev rx : Rect S512x256 := Rect.unit (s := S512x256) ![0, 0] S512x256.size inb_S512x256_S512x256_0_0
abbrev rdst : Rect S512 := Rect.unit (s := S512) ![0] S512.size inb_S512_S512_0
theorem read_x (f : (cc0_stg0_0 : Ref sig .tc).ty.Contents (Elt F)) : (xM : Memref sig .tc .vmem S512x256 .bf16).view.readAt (Elt F) rx.toLoadRect f = f :=
  Memref.readAt_unit_zero (Elt F) cc0_stg0_0 hz2 _ f
theorem read_dst (f : (cc0_stg1_0 : Ref sig .tc).ty.Contents (Elt F)) : (dM : Memref sig .tc .vmem S512 .i32).view.readAt (Elt F) rdst.toLoadRect f = f :=
  Memref.readAt_unit_zero (Elt F) cc0_stg1_0 hz1 _ f
theorem write_out (f w : (cc0_stg2_0 : Ref sig .tc).ty.Contents (Elt F)) :
    ((oM : Memref sig .tc .vmem S512x256 .f32).access rx : View sig .tc _ _ _).write (Elt F) f w Finset.univ = w :=
  Memref.write_access_unit_zero_univ (Elt F) cc0_stg2_0 hz2 _ f w

/-- Reading a block as a matrix and back. -/
theorem pay11_eq (v : Vec F S1x160x256 .bf16) : k0_pay11 v = v := by
  unfold k0_pay11; exact shapeCast_shapeCast v _ _

/-- The share of slot r of the destinations that c reads with while its own row is under transfer. -/
def dq (c : Dev nD) (r : Fin 4) : PosShare TreeShare := if r = zc c then shrKept else fullShare
theorem dq_self (c : Dev nD) : dq c (zc c) = shrKept := if_pos rfl
theorem dq_nx (c : Dev nD) (k : Fin 3) : dq c (zc (nx c k)) = fullShare := if_neg (by revert c k; decide)
theorem dests_eq (c : Dev nD) (f : Buf (Elt F) ((c : Thread nD τ).loc cc0_scratch2)) :
    (bigSep Finset.univ fun r => dslot c r (dq c r) f : sProp 𝕄)
      = iprop(dslot c (zc c) shrKept f ∗ dslot c (zc (nx c 0)) fullShare f ∗ dslot c (zc (nx c 1)) fullShare f ∗ dslot c (zc (nx c 2)) fullShare f) := by
  rw [bigSep_places c, dq_self, dq_nx, dq_nx, dq_nx]

/-! ## The body -/

section Body

variable (K : Dev nD × CI → ℕ)

def bodyPre (c : Dev nD) : sProp 𝕄 :=
  iprop((ghost m ρ K c ∗ creds c ∗ levAts L lv ∗ scratch c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 8000 in
set_option maxHeartbeats 4000000 in
theorem sound_body (c : Dev nD) (P : PUnit → sProp 𝕄) :
    iprop(bodyPre m ρ K c ∗ (bodyPost m ρ c -∗ P ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) P := by
  simp only [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  unfold bodyPre ghost perK creds credK scratch stg
  iintro ⟨⟨⟨⟨#HR, HatB, ⟨⟨Hat00, Hat10, Hat20, Hat30⟩, HtB0, Ht00, Ht10, Ht20, Ht30⟩, ⟨⟨Hat01, Hat11, Hat21, Hat31⟩, HtB1, Ht01, Ht11, Ht21, Ht31⟩,
      ⟨⟨Hat02, Hat12, Hat22, Hat32⟩, HtB2, Ht02, Ht12, Ht22, Ht32⟩⟩, ⟨HcB, ⟨Hc10, Hc30⟩, ⟨Hc11, Hc31⟩, ⟨Hc12, Hc32⟩⟩, #Hlev,
      ⟨⟨%fs, Hs⟩, ⟨%fy, Hy⟩, ⟨%fg, Hg⟩⟩⟩, Hown, ⟨%dx, Hx⟩, ⟨%dd, Hd⟩, ⟨%dO, Hout⟩⟩, Hk⟩
  icases Hx with ⟨%gx, %hgx, Hx⟩
  icases Hd with ⟨%gd, %hgd, Hd⟩
  icases Hout with ⟨%gO, %hgO, Hout⟩
  have hx : gx = xstg m ρ c := by rw [hgx]; unfold Dat.before; rw [if_pos (fetch0_0 t0_0)]; rfl
  have hd : gd = dstg m ρ c := by rw [hgd]; unfold Dat.before; rw [if_pos (fetch0_1 t0_0)]; rfl
  subst hx hd
  unfold Dat.owesAt Pipeline.owesWithin
  icases Hown with ⟨%W, %hW, HO⟩
  rw [show (dats m ρ 0 c).owed t0_0.castSucc = O₀ c from rfl]
  -- the slots, in the order seen from c
  ihave Hy' := (Entails.of_eq ((y_slots c fy).trans (bigSep_places c _))) $$ Hy
  icases Hy' with ⟨Hyc, Hy0, Hy1, Hy2⟩
  ihave Hg' := (Entails.of_eq ((d_slots c fg).trans (bigSep_places c _))) $$ Hg
  icases Hg' with ⟨Hgc, Hg0, Hg1, Hg2⟩
  ihave Hs' := (Entails.of_eq ((seg_slots c fs).trans (bigSep_four _))) $$ Hs
  icases Hs' with ⟨Hs0, Hs1, Hs2, Hs3⟩
  -- the three raises of the barrier
  iapply (wp_raise_bar m ρ K c _ 0 (dev1_eq c) (O := owB1 c) rfl (by rfl) fy fg) $$ [HO HtB0 Hy0 Hg0]
  · isplitr; · iexact HR
    isplitl [HO]; · iexact HO
    isplitl [HtB0]; · iexact HtB0
    isplitl [Hy0]; · iexact Hy0
    iexact Hg0
  iintro HO
  iapply (wp_raise_bar m ρ K c _ 1 (dev2_eq c) (O := owB2 c) rfl (by rfl) fy fg) $$ [HO HtB1 Hy1 Hg1]
  · isplitr; · iexact HR
    isplitl [HO]; · iexact HO
    isplitl [HtB1]; · iexact HtB1
    isplitl [Hy1]; · iexact Hy1
    iexact Hg1
  iintro HO
  iapply (wp_raise_bar m ρ K c _ 2 (dev3_eq c) (O := owD0 c) rfl (by rfl) fy fg) $$ [HO HtB2 Hy2 Hg2]
  · isplitr; · iexact HR
    isplitl [HO]; · iexact HO
    isplitl [HtB2]; · iexact HtB2
    isplitl [Hy2]; · iexact Hy2
    iexact Hg2
  iintro HO
  -- its own row of destinations
  iapply (wp_load 𝒱₀ (c : Thread nD τ) none Set.univ (m := dM) (Finset.subset_univ _)) $$ Hd; iintro Hd
  rw [read_dst]
  iapply (wp_peek_d c (zc c) fg (off1_eq c)) $$ Hgc; iintro Hgc
  iapply (wp_store_d m ρ c (zc c) fg (off1_eq c) (by rw [gdev_zc])) $$ Hgc; iintro Hgc
  iapply (wp_load 𝒱₀ (c : Thread nD τ) none Set.univ (m := dM) (Finset.subset_univ _)) $$ Hd; iintro Hd
  rw [read_dst]
  iapply (wp_load 𝒱₀ (c : Thread nD τ) none Set.univ (m := xM) (Finset.subset_univ _)) $$ Hx; iintro Hx
  rw [read_x]
  -- the four blocks
  iapply (wp_peek_seg c 0 fs (off := ![0, 0, 0]) rfl) $$ Hs0; iintro Hs0
  iapply (wp_store_seg m ρ c 0 fs (off := ![0, 0, 0]) rfl rfl) $$ Hs0; iintro Hs0
  iapply (wp_peek_seg c 1 fs (off := ![1, 0, 0]) rfl) $$ Hs1; iintro Hs1
  iapply (wp_store_seg m ρ c 1 fs (off := ![1, 0, 0]) rfl rfl) $$ Hs1; iintro Hs1
  iapply (wp_peek_seg c 2 fs (off := ![2, 0, 0]) rfl) $$ Hs2; iintro Hs2
  iapply (wp_store_seg m ρ c 2 fs (off := ![2, 0, 0]) rfl rfl) $$ Hs2; iintro Hs2
  iapply (wp_peek_seg c 3 fs (off := ![3, 0, 0]) rfl) $$ Hs3; iintro Hs3
  iapply (wp_store_seg m ρ c 3 fs (off := ![3, 0, 0]) rfl rfl) $$ Hs3; iintro Hs3
  ihave Hs' := (Entails.of_eq ((bigSep_four (fun r => segSlot c r (SEG m ρ c))).symm.trans (bigSep_places c _))) $$ [Hs0 Hs1 Hs2 Hs3]
  · isplitl [Hs0]; · iexact Hs0
    isplitl [Hs1]; · iexact Hs1
    isplitl [Hs2] <;> iassumption
  icases Hs' with ⟨Hsc, Hs0, Hs1, Hs2⟩
  -- its own block into the landing buffer
  iapply (wp_load_seg m ρ c (zc c) (off2_eq c)) $$ Hsc; iintro Hsc
  iapply (wp_peek_y c (zc c) fy (off2_eq c)) $$ Hyc; iintro Hyc
  iapply (wp_store_y m ρ c (zc c) fy (off2_eq c) (by rw [pay11_eq, gdev_zc])) $$ Hyc; iintro Hyc
  -- the wait for the barrier
  iapply (wp_wait_bar m ρ K c (by rfl)) $$ [HcB HO HatB]
  · isplitr; · iexact HR
    isplitl [HcB]; · iexact HcB
    isplitl [HO]; · iexact HO
    isplitr; · iexact Hlev
    iexact HatB
  unfold barPay
  iintro ⟨HO, HzB, ⟨⟨%fy0, Hy0⟩, ⟨%fg0, Hg0⟩⟩, ⟨⟨%fy1, Hy1⟩, ⟨%fg1, Hg1⟩⟩, ⟨⟨%fy2, Hy2⟩, ⟨%fg2, Hg2⟩⟩⟩
  ihave Hsh := (dslot_shares c (zc c) (DG m ρ c)).1 $$ Hgc
  icases Hsh with ⟨⟨Hq0, Hq1⟩, Hq2, Hgc⟩
  -- the six transfers
  iapply (wp_send_d m ρ K c _ 0 (dev4_eq c) (off3_eq c) (off3_eq c) (by rfl) (by rfl) (O := owX0 c) rfl fg0) $$ [Hq0 Hg0 HO Ht20 Ht30]
  · isplitr; · iexact HR
    isplitl [Hq0]; · iexact Hq0
    isplitl [Hg0]; · iexact Hg0
    isplitl [HO]; · iexact HO
    isplitl [Ht20] <;> iassumption
  iintro ⟨Hc20, HO⟩
  iapply (wp_send_x m ρ K c _ 0 (dev5_eq c) (off5_eq c 0) (off4_eq c) (by rfl) (by rfl) (O := owD1 c) rfl fy0) $$ [Hs0 Hy0 HO Ht00 Ht10]
  · isplitr; · iexact HR
    isplitl [Hs0]; · iexact Hs0
    isplitl [Hy0]; · iexact Hy0
    isplitl [HO]; · iexact HO
    isplitl [Ht00] <;> iassumption
  iintro ⟨Hc00, HO⟩
  iapply (wp_send_d m ρ K c _ 1 (dev6_eq c) (off3_eq c) (off3_eq c) (by rfl) (by rfl) (O := owX1 c) rfl fg1) $$ [Hq1 Hg1 HO Ht21 Ht31]
  · isplitr; · iexact HR
    isplitl [Hq1]; · iexact Hq1
    isplitl [Hg1]; · iexact Hg1
    isplitl [HO]; · iexact HO
    isplitl [Ht21] <;> iassumption
  iintro ⟨Hc21, HO⟩
  iapply (wp_send_x m ρ K c _ 1 (dev7_eq c) (off5_eq c 1) (off4_eq c) (by rfl) (by rfl) (O := owD2 c) rfl fy1) $$ [Hs1 Hy1 HO Ht01 Ht11]
  · isplitr; · iexact HR
    isplitl [Hs1]; · iexact Hs1
    isplitl [Hy1]; · iexact Hy1
    isplitl [HO]; · iexact HO
    isplitl [Ht01] <;> iassumption
  iintro ⟨Hc01, HO⟩
  iapply (wp_send_d m ρ K c _ 2 (dev8_eq c) (off3_eq c) (off3_eq c) (by rfl) (by rfl) (O := owX2 c) rfl fg2) $$ [Hq2 Hg2 HO Ht22 Ht32]
  · isplitr; · iexact HR
    isplitl [Hq2]; · iexact Hq2
    isplitl [Hg2]; · iexact Hg2
    isplitl [HO]; · iexact HO
    isplitl [Ht22] <;> iassumption
  iintro ⟨Hc22, HO⟩
  iapply (wp_send_x m ρ K c _ 2 (dev9_eq c) (off5_eq c 2) (off4_eq c) (by rfl) (by rfl) (O := 0) rfl fy2) $$ [Hs2 Hy2 HO Ht02 Ht12]
  · isplitr; · iexact HR
    isplitl [Hs2]; · iexact Hs2
    isplitl [Hy2]; · iexact Hy2
    isplitl [HO]; · iexact HO
    isplitl [Ht02] <;> iassumption
  iintro ⟨Hc02, HO⟩
  ihave HO := (show owes (c : Thread nD τ) (0 : CellTallies nD τ sig Unit) _ ⊢ iprop(∃ W, owes (c : Thread nD τ) (0 : CellTallies nD τ sig Unit) W) from by
    iintro H; iexists _; iexact H) $$ HO
  -- the rows of destinations arrive
  iapply (wp_wait_x m ρ K c 3 2 (by rfl) (by rfl)) $$ [Hc32 HO Hat32]
  · isplitr; · iexact HR
    isplitl [Hc32]; · iexact Hc32
    isplitl [HO] <;> iassumption
  iintro ⟨HO, Hz32, Hp⟩
  ihave Hg0 := (show xPay m ρ c 3 2 ⊢ dslot c (zc (nx c 0)) fullShare (DG m ρ c) from Entails.of_eq rfl) $$ Hp
  iapply (wp_wait_x m ρ K c 3 1 (by rfl) (by rfl)) $$ [Hc31 HO Hat31]
  · isplitr; · iexact HR
    isplitl [Hc31]; · iexact Hc31
    isplitl [HO] <;> iassumption
  iintro ⟨HO, Hz31, Hp⟩
  ihave Hg1 := (show xPay m ρ c 3 1 ⊢ dslot c (zc (nx c 1)) fullShare (DG m ρ c) from Entails.of_eq rfl) $$ Hp
  iapply (wp_wait_x m ρ K c 3 0 (by rfl) (by rfl)) $$ [Hc30 HO Hat30]
  · isplitr; · iexact HR
    isplitl [Hc30]; · iexact Hc30
    isplitl [HO] <;> iassumption
  iintro ⟨HO, Hz30, Hp⟩
  ihave Hg2 := (show xPay m ρ c 3 0 ⊢ dslot c (zc (nx c 2)) fullShare (DG m ρ c) from Entails.of_eq rfl) $$ Hp
  ihave HD := (Entails.of_eq ((dests_eq c (DG m ρ c)).symm.trans (bigSep_four _))) $$ [Hgc Hg0 Hg1 Hg2]
  · isplitl [Hgc]; · iexact Hgc
    isplitl [Hg0]; · iexact Hg0
    isplitl [Hg1] <;> iassumption
  icases HD with ⟨Hd0, Hd1, Hd2, Hd3⟩
  iapply (wp_load_d m ρ c 0 (dq c 0) (off := ![0, 0, 0]) rfl) $$ Hd0; iintro Hd0
  iapply (wp_load_d m ρ c 1 (dq c 1) (off := ![1, 0, 0]) rfl) $$ Hd1; iintro Hd1
  iapply (wp_load_d m ρ c 2 (dq c 2) (off := ![2, 0, 0]) rfl) $$ Hd2; iintro Hd2
  -- c's own block, and the three received
  iapply (wp_load_y m ρ c (zc c) (off2_eq c)) $$ Hyc; iintro Hyc
  iapply (wp_wait_x m ρ K c 1 2 (by rfl) (by rfl)) $$ [Hc12 HO Hat12]
  · isplitr; · iexact HR
    isplitl [Hc12]; · iexact Hc12
    isplitl [HO] <;> iassumption
  iintro ⟨HO, Hz12, Hp⟩
  ihave Hy0 := (show xPay m ρ c 1 2 ⊢ yslot c (zc (nx c 0)) (YG m ρ c) from Entails.of_eq rfl) $$ Hp
  iapply (wp_load_y m ρ c (zc (nx c 0)) (off7_eq c 0)) $$ Hy0; iintro Hy0
  iapply (wp_wait_x m ρ K c 1 0 (by rfl) (by rfl)) $$ [Hc10 HO Hat10]
  · isplitr; · iexact HR
    isplitl [Hc10]; · iexact Hc10
    isplitl [HO] <;> iassumption
  iintro ⟨HO, Hz10, Hp⟩
  ihave Hy2 := (show xPay m ρ c 1 0 ⊢ yslot c (zc (nx c 2)) (YG m ρ c) from Entails.of_eq rfl) $$ Hp
  iapply (wp_load_y m ρ c (zc (nx c 2)) (off7_eq c 2)) $$ Hy2; iintro Hy2
  iapply (wp_wait_x m ρ K c 1 1 (by rfl) (by rfl)) $$ [Hc11 HO Hat11]
  · isplitr; · iexact HR
    isplitl [Hc11]; · iexact Hc11
    isplitl [HO] <;> iassumption
  iintro ⟨HO, Hz11, Hp⟩
  ihave Hy1 := (show xPay m ρ c 1 1 ⊢ yslot c (zc (nx c 1)) (YG m ρ c) from Entails.of_eq rfl) $$ Hp
  iapply (wp_load_y m ρ c (zc (nx c 1)) (off7_eq c 1)) $$ Hy1; iintro Hy1
  iapply (wp_load 𝒱₀ (c : Thread nD τ) none Set.univ (m := oM) (Finset.subset_univ _)) $$ Hout; iintro Hout
  iapply (wp_store 𝒱₀ (c : Thread nD τ) none Set.univ (m := oM) (r := rx) (Mk := Finset.univ) (Finset.subset_univ _)) $$ Hout; iintro Hout
  rw [write_out]
  -- the sources come back
  iapply (wp_wait_x m ρ K c 2 0 (by rfl) (by rfl)) $$ [Hc20 HO Hat20]
  · isplitr; · iexact HR
    isplitl [Hc20]; · iexact Hc20
    isplitl [HO] <;> iassumption
  iintro ⟨HO, Hz20, Hp⟩
  ihave Hq0 := (show xPay m ρ c 2 0 ⊢ dslot c (zc c) (shr 0) (DG m ρ c) from Entails.of_eq rfl) $$ Hp
  iapply (wp_wait_x m ρ K c 2 1 (by rfl) (by rfl)) $$ [Hc21 HO Hat21]
  · isplitr; · iexact HR
    isplitl [Hc21]; · iexact Hc21
    isplitl [HO] <;> iassumption
  iintro ⟨HO, Hz21, Hp⟩
  ihave Hq1 := (show xPay m ρ c 2 1 ⊢ dslot c (zc c) (shr 1) (DG m ρ c) from Entails.of_eq rfl) $$ Hp
  iapply (wp_wait_x m ρ K c 2 2 (by rfl) (by rfl)) $$ [Hc22 HO Hat22]
  · isplitr; · iexact HR
    isplitl [Hc22]; · iexact Hc22
    isplitl [HO] <;> iassumption
  iintro ⟨HO, Hz22, Hp⟩
  ihave Hq2 := (show xPay m ρ c 2 2 ⊢ dslot c (zc c) (shr 2) (DG m ρ c) from Entails.of_eq rfl) $$ Hp
  iapply (wp_wait_x m ρ K c 0 0 (by rfl) (by rfl)) $$ [Hc00 HO Hat00]
  · isplitr; · iexact HR
    isplitl [Hc00]; · iexact Hc00
    isplitl [HO] <;> iassumption
  iintro ⟨HO, Hz00, Hp⟩
  ihave Hs0 := (show xPay m ρ c 0 0 ⊢ segSlot c (zc (nx c 0)) (SEG m ρ c) from Entails.of_eq rfl) $$ Hp
  iapply (wp_wait_x m ρ K c 0 1 (by rfl) (by rfl)) $$ [Hc01 HO Hat01]
  · isplitr; · iexact HR
    isplitl [Hc01]; · iexact Hc01
    isplitl [HO] <;> iassumption
  iintro ⟨HO, Hz01, Hp⟩
  ihave Hs1 := (show xPay m ρ c 0 1 ⊢ segSlot c (zc (nx c 1)) (SEG m ρ c) from Entails.of_eq rfl) $$ Hp
  iapply (wp_wait_x m ρ K c 0 2 (by rfl) (by rfl)) $$ [Hc02 HO Hat02]
  · isplitr; · iexact HR
    isplitl [Hc02]; · iexact Hc02
    isplitl [HO] <;> iassumption
  iintro ⟨HO, Hz02, Hp⟩
  ihave Hs2 := (show xPay m ρ c 0 2 ⊢ segSlot c (zc (nx c 2)) (SEG m ρ c) from Entails.of_eq rfl) $$ Hp
  rw [wp_ret]; imodintro
  -- the buffers whole again
  ihave HD := (Entails.of_eq ((bigSep_four (fun r => dslot c r (dq c r) (DG m ρ c))).symm.trans (dests_eq c (DG m ρ c)))) $$ [Hd0 Hd1 Hd2 Hd3]
  · isplitl [Hd0]; · iexact Hd0
    isplitl [Hd1]; · iexact Hd1
    isplitl [Hd2] <;> iassumption
  icases HD with ⟨Hgc, Hg0, Hg1, Hg2⟩
  ihave Hgc := (dslot_shares c (zc c) (DG m ρ c)).2 $$ [Hgc Hq0 Hq1 Hq2]
  · isplitl [Hq0 Hq1]; · isplitl [Hq0] <;> iassumption
    isplitl [Hq2] <;> iassumption
  ihave Hg := (Entails.of_eq ((d_slots c (DG m ρ c)).trans (bigSep_places c _)).symm) $$ [Hgc Hg0 Hg1 Hg2]
  · isplitl [Hgc]; · iexact Hgc
    isplitl [Hg0]; · iexact Hg0
    isplitl [Hg1] <;> iassumption
  ihave Hy := (Entails.of_eq ((y_slots c (YG m ρ c)).trans (bigSep_places c _)).symm) $$ [Hyc Hy0 Hy1 Hy2]
  · isplitl [Hyc]; · iexact Hyc
    isplitl [Hy0]; · iexact Hy0
    isplitl [Hy1] <;> iassumption
  ihave Hs := (Entails.of_eq ((seg_slots c (SEG m ρ c)).trans (bigSep_places c _)).symm) $$ [Hsc Hs0 Hs1 Hs2]
  · isplitl [Hsc]; · iexact Hsc
    isplitl [Hs0]; · iexact Hs0
    isplitl [Hs1] <;> iassumption
  iapply Hk
  unfold bodyPost Φ₁ scratch zeros stg Dat.owesAt Pipeline.owesWithin
  rw [show (dats m ρ 0 c).owed t0_0.succ = 0 from rfl]
  isplitl [Hs Hy Hg Hz00 Hz01 Hz02 Hz10 Hz11 Hz12 Hz20 Hz21 Hz22 Hz30 Hz31 Hz32 HzB]
  · isplitl [Hs Hy Hg]
    · isplitl [Hs]; · iexists _; iexact Hs
      isplitl [Hy]; · iexists _; iexact Hy
      iexists _; iexact Hg
    isplitr [HzB]
    · isplitl [Hz00 Hz01 Hz02]
      · isplitl [Hz00]; · iexact Hz00
        isplitl [Hz01] <;> iassumption
      isplitl [Hz10 Hz11 Hz12]
      · isplitl [Hz10]; · iexact Hz10
        isplitl [Hz11] <;> iassumption
      isplitl [Hz20 Hz21 Hz22]
      · isplitl [Hz20]; · iexact Hz20
        isplitl [Hz21] <;> iassumption
      isplitl [Hz30]; · iexact Hz30
      isplitl [Hz31] <;> iassumption
    iexact HzB
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Hout

set_option maxRecDepth 8000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 8000 in
/-- The library's obligation for the body, on device c. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) (fun _ => bodyPost m ρ c)
  unfold bodyPre' Φ₀ start
  iintro ⟨⟨⟨⟨%K, Hg⟩, Hcr, Hlev⟩, Hscr⟩, Ho, Hx, Hd, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    isplitl [Ho]; · iexact Ho
    isplitl [Hx]; · iexact Hx
    isplitl [Hd] <;> iassumption
  · iintro H; iexact H

end Body

end Cert.A2A

end
-- ==== Proof.Run.lean ====
/-
# The exchange of rows over the z axis: the launch and the run

The sixteen kernels start together: the cells' invariants are allocated for all devices at once, the duty tokens are dealt to the devices that
pay them, and each device gets the credit of what the others owe it. The run ends with every counter at zero.
-/
module

public import proofs.«01_k».proof.Proof.Body
public import proofs.«01_k».proof.Proof.Gen.KernelIdeal.Launch
public import Idealize.ShloMosaic.Lib.Pipeline.CollectiveSegs
public import proofs.«01_k».proof.Defs
public import proofs.«01_k».proof.Proof.Gen.Kernel

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted at launch -/

/-- The kernel's own twelve semaphores. -/
abbrev osem : Fin 12 → SemLoc sig := fun i => .dma (⟨3 + i.val, by have h : sig.nDmaSem = 15 := rfl; omega⟩ : Fin sig.nDmaSem)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]

def allCells : Finset (GSem nD τ sig) := Finset.univ.map ⟨kcell, kcell_injective⟩

/-- The duty tokens of a device's own cells, for each k: the barrier's duty `k.rev` and the four DMA cells' only duty. -/
abbrev tokOf (x : Dev nD × Fin 3 × Option (Fin 4)) : GSem nD τ sig × ℕ × Fin 3 := match x.2.2 with
  | none => (barCell x.1, 0, x.2.1.rev)
  | some a => (xCell x.1 a x.2.1, 0, 0)

theorem tokOf_injective : Function.Injective (tokOf : Dev nD × Fin 3 × Option (Fin 4) → GSem nD τ sig × ℕ × Fin 3) := by
  rintro ⟨c, k, o⟩ ⟨c', k', o'⟩ h
  have h1 : c = c' := by
    have := congrArg (fun x : GSem nD τ sig × ℕ × Fin 3 => x.1.1.1) h
    cases o <;> cases o' <;> exact this
  subst h1
  rcases o with _ | a <;> rcases o' with _ | a'
  · have h2 : k.rev = k'.rev := congrArg (fun x : GSem nD τ sig × ℕ × Fin 3 => x.2.2) h
    rw [Fin.rev_injective h2]
  · have h2 : csem none = csem (some (a', k')) := congrArg (fun x : GSem nD τ sig × ℕ × Fin 3 => x.1.2) h
    exact absurd (csem_injective h2) (by simp)
  · have h2 : csem (some (a, k)) = csem none := congrArg (fun x : GSem nD τ sig × ℕ × Fin 3 => x.1.2) h
    exact absurd (csem_injective h2) (by simp)
  · have h2 : csem (some (a, k)) = csem (some (a', k')) := congrArg (fun x : GSem nD τ sig × ℕ × Fin 3 => x.1.2) h
    have h3 := csem_injective h2
    simp only [Option.some.injEq, Prod.mk.injEq] at h3
    rw [h3.1, h3.2]

def allToks : Finset (GSem nD τ sig × ℕ × Fin 3) := Finset.univ.map ⟨tokOf, tokOf_injective⟩

/-- The ghost state minted at launch: the pipeline's and the exchange's. -/
def u₀ : UU :=
  (initOf (Pipeline.cells cfgs cellOf_inj) (Pipeline.launchToks cfgs cellOf_inj), initOf allCells allToks)

/-- The tokens of index k of device c's own cells. -/
def toksK (c : Dev nD) (k : Fin 3) : sProp 𝕄 :=
  iprop(dutyTok ER (barCell c) 0 k.rev ∗ dutyTok ER (xCell c 0 k) 0 0 ∗ dutyTok ER (xCell c 1 k) 0 0
    ∗ dutyTok ER (xCell c 2 k) 0 0 ∗ dutyTok ER (xCell c 3 k) 0 0)
def toks (c : Dev nD) : sProp 𝕄 := iprop(toksK c 0 ∗ toksK c 1 ∗ toksK c 2)

/-- What the launch element deals device c. -/
def G (c : Dev nD) : sProp 𝕄 :=
  iprop((bigSep Finset.univ fun i : CI => roundState ER (rd m ρ) (kcell (c, i)) 0)
    ∗ (bigSep Finset.univ fun i : CI => iprop(atPos ER (kcell (c, i)) 0 ∅ 0 ∗ reached ER (kcell (c, i)) 0)) ∗ toks c)

/-- What device c starts from. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_opt4 (Φ : Option (Fin 4) → sProp 𝕄) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ
omit [FloatOps F] in
/-- The cells of a device one by one. -/
theorem bigSep_CI (Φ : CI → sProp 𝕄) : bigSep Finset.univ Φ =
    iprop(Φ none ∗ Φ (some (0, 0)) ∗ Φ (some (0, 1)) ∗ Φ (some (0, 2)) ∗ Φ (some (1, 0)) ∗ Φ (some (1, 1)) ∗ Φ (some (1, 2))
      ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2),
    some (2, 0), some (2, 1), some (2, 2), some (3, 0), some (3, 1), some (3, 2)] (by decide) (by decide) Φ

/-- The launch element pays for every device's share. -/
theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_prod, bigSep_fin3, bigSep_opt4, bigSep_opt4, bigSep_opt4]
    rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

omit [FloatOps F] in
/-- The kernel's own semaphores are the twelve DMA cells; -/
theorem ownSems0_eq (c : Dev nD) : (Pipeline.ownSems0 (Ix := Unit) (Name := ℕ) (U := UU) (Lvl := ℕ) (Val := Elt F) (τ := τ) osem c : sProp 𝕄)
    = iprop(semVal (xCell c 0 0) 0 ∗ semVal (xCell c 0 1) 0 ∗ semVal (xCell c 0 2) 0 ∗ semVal (xCell c 1 0) 0 ∗ semVal (xCell c 1 1) 0 ∗ semVal (xCell c 1 2) 0
      ∗ semVal (xCell c 2 0) 0 ∗ semVal (xCell c 2 1) 0 ∗ semVal (xCell c 2 2) 0 ∗ semVal (xCell c 3 0) 0 ∗ semVal (xCell c 3 1) 0 ∗ semVal (xCell c 3 2) 0) := by
  rw [Pipeline.ownSems0_eq_of_list c osem [0, 1, 2, 3, 4, 5, 6, 7, 8, 9, 10, 11] (by decide) (by decide)]; rfl
omit [FloatOps F] in
/-- the barrier semaphore is the one semaphore that is not the launch's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_CI]
  iintro ⟨HS, HB⟩
  isplitl [HB]; · iexact HB
  iexact HS

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (rd m ρ) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (rd m ρ) (kcell (c, i)) 0)
      ⊢ (|={Set.univ}=> bigSep Finset.univ fun i : CI => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties that device c pays, of index k. -/
def payK (c : Dev nD) (k : Fin 3) : sProp 𝕄 :=
  iprop(dutyTok ER (barCell (nx c k)) 0 k.rev ∗ dutyTok ER (xCell c 0 k) 0 0 ∗ dutyTok ER (xCell (nx c k) 1 k) 0 0
    ∗ dutyTok ER (xCell c 2 k) 0 0 ∗ dutyTok ER (xCell (nx c k) 3 k) 0 0)

omit [FloatOps F] in
theorem payK_eq (c : Dev nD) (k : Fin 3) : (payK c k : sProp 𝕄) =
    iprop(dutyTok ER (barCell (nx c k)) 0 k.rev ∗ dutyTok ER (xCell c 0 k) 0 0 ∗ dutyTok ER (xCell (nx c k) 1 k) 0 0
      ∗ dutyTok ER (xCell c 2 k) 0 0 ∗ dutyTok ER (xCell (nx c k) 3 k) 0 0) := by unfold payK; rfl

omit [FloatOps F] in
/-- The tokens of index k dealt along the permutation c ↦ `nx c k`. -/
theorem toksK_around (k : Fin 3) : (bigSep Finset.univ fun c : Dev nD => (toksK c k : sProp 𝕄)) ⊢ bigSep Finset.univ fun c : Dev nD => payK c k := by
  unfold toksK payK
  rw [bigSep_sep', bigSep_sep', bigSep_sep', bigSep_sep', bigSep_sep', bigSep_sep', bigSep_sep', bigSep_sep',
    bigSep_univ_equiv (nxEquiv k) (fun c : Dev nD => (dutyTok ER (barCell c) 0 k.rev : sProp 𝕄)),
    bigSep_univ_equiv (nxEquiv k) (fun c : Dev nD => (dutyTok ER (xCell c 1 k) 0 0 : sProp 𝕄)),
    bigSep_univ_equiv (nxEquiv k) (fun c : Dev nD => (dutyTok ER (xCell c 3 k) 0 0 : sProp 𝕄))]
  exact Entails.of_eq rfl

omit [FloatOps F] in
theorem toks_around : (bigSep Finset.univ fun c : Dev nD => (toks c : sProp 𝕄))
    ⊢ bigSep Finset.univ fun c : Dev nD => iprop(payK c 0 ∗ payK c 1 ∗ payK c 2) := by
  unfold toks
  rw [bigSep_sep', bigSep_sep', bigSep_sep', bigSep_sep']
  exact BIClass.sep_mono (toksK_around 0) (BIClass.sep_mono (toksK_around 1) (toksK_around 2))

/-- What stays with device c: its positions and the tokens it pays with. -/
def linear (c : Dev nD) : sProp 𝕄 :=
  iprop((bigSep Finset.univ fun i : CI => atPos ER (kcell (c, i)) 0 ∅ 0) ∗ (payK c 0 ∗ payK c 1 ∗ payK c 2))

theorem ghost_intro (K : Dev nD × CI → ℕ) (c : Dev nD) : iprop(records m ρ K ∗ linear c) ⊢ G' m ρ c := by
  unfold linear G' ghost perK
  rw [bigSep_CI]
  iintro ⟨HR, ⟨HB, H00, H01, H02, H10, H11, H12, H20, H21, H22, H30, H31, H32⟩, HP0, HP1, HP2⟩
  iexists K
  isplitl [HR]; · iexact HR
  isplitl [HB]; · iexact HB
  isplitl [H00 H10 H20 H30 HP0]
  · isplitl [H00 H10 H20 H30]
    · isplitl [H00]; · iexact H00
      isplitl [H10]; · iexact H10
      isplitl [H20]; · iexact H20
      iexact H30
    · iapply (Entails.of_eq (payK_eq (F := F) c 0)); iexact HP0
  isplitl [H01 H11 H21 H31 HP1]
  · isplitl [H01 H11 H21 H31]
    · isplitl [H01]; · iexact H01
      isplitl [H11]; · iexact H11
      isplitl [H21]; · iexact H21
      iexact H31
    · iapply (Entails.of_eq (payK_eq (F := F) c 1)); iexact HP1
  · isplitl [H02 H12 H22 H32]
    · isplitl [H02]; · iexact H02
      isplitl [H12]; · iexact H12
      isplitl [H22]; · iexact H22
      iexact H32
    · iapply (Entails.of_eq (payK_eq (F := F) c 2)); iexact HP2

theorem regroup :
    (bigSep Finset.univ fun c : Dev nD => iprop((bigSep Finset.univ fun i : CI => iprop(∃ κ : ℕ, cellInv ER (rd m ρ) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : CI => (atPos ER (kcell (c, i)) 0 ∅ 0 : sProp 𝕄))
      (fun c => iprop(payK c 0 ∗ payK c 1 ∗ payK c 2))).symm))
    isplitl [Hat]; · iexact Hat
    iexact Htk

/-- All devices' cells allocated at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What every device owes the cell `sm` of the device k + 1 places after it is, at device c, the credit of its own cell. -/
theorem cred_around (sm : SemLoc sig) (k : Fin 3) (n : ℕ) (c : Dev nD) :
    (Pipeline.launchCred (fun d => tallyAt (((nx d k).tc : Thread nD τ), sm) () n) c : sProp 𝕄) ⊢ cred (tallyAt ((c.tc : Thread nD τ), sm) () n) :=
  Pipeline.launchCred_tallyAt sm (fun d => nx d k) (fun d => nx d k.rev) (fun d => (nxEquiv k).right_inv d) (fun d => nx_nx d k) () n c

omit [FloatOps F] in
theorem bar_creds (c : Dev nD) :
    iprop(cred (tallyAt (barCell c) () 1) ∗ cred (tallyAt (barCell c) () 1) ∗ cred (tallyAt (barCell c) () 1)) ⊢ (cred (tallyAt (barCell c) () 3) : sProp 𝕄) := by
  rw [show (tallyAt (barCell c) () 3 : CellTallies nD τ sig Unit) = tallyAt (barCell c) () 1 + (tallyAt (barCell c) () 1 + tallyAt (barCell c) () 1) from by
    unfold tallyAt; rw [← tallyOn_add, ← tallyOn_add, ← Finsupp.single_add, ← Finsupp.single_add]; rfl]
  iintro ⟨H1, H2, H3⟩
  iapply (cred_add _ _).2
  isplitl [H1]; · iexact H1
  iapply (cred_add _ _).2
  isplitl [H2] <;> iassumption

omit [FloatOps F] in
theorem creds_intro (c : Dev nD) : (Pipeline.launchCred O₀ c : sProp 𝕄) ⊢ creds c := by
  show Pipeline.launchCred (fun d => owB1 d + tallyAt (barCell (nx d 0)) () 1) c ⊢ _
  rw [Pipeline.launchCred_add]
  rw [show (owB1 : Dev nD → CellTallies nD τ sig Unit) = fun d => owB2 d + tallyAt (barCell (nx d 1)) () 1 from rfl, Pipeline.launchCred_add]
  rw [show (owB2 : Dev nD → CellTallies nD τ sig Unit) = fun d => owD0 d + tallyAt (barCell (nx d 2)) () 1 from rfl, Pipeline.launchCred_add]
  rw [show (owD0 : Dev nD → CellTallies nD τ sig Unit) = fun d => owX0 d + tallyAt (xCell (nx d 0) 3 0) () (xAmt 3) from rfl, Pipeline.launchCred_add]
  rw [show (owX0 : Dev nD → CellTallies nD τ sig Unit) = fun d => owD1 d + tallyAt (xCell (nx d 0) 1 0) () (xAmt 1) from rfl, Pipeline.launchCred_add]
  rw [show (owD1 : Dev nD → CellTallies nD τ sig Unit) = fun d => owX1 d + tallyAt (xCell (nx d 1) 3 1) () (xAmt 3) from rfl, Pipeline.launchCred_add]
  rw [show (owX1 : Dev nD → CellTallies nD τ sig Unit) = fun d => owD2 d + tallyAt (xCell (nx d 1) 1 1) () (xAmt 1) from rfl, Pipeline.launchCred_add]
  rw [show (owD2 : Dev nD → CellTallies nD τ sig Unit) = fun d => owX2 d + tallyAt (xCell (nx d 2) 3 2) () (xAmt 3) from rfl, Pipeline.launchCred_add]
  rw [show (owX2 : Dev nD → CellTallies nD τ sig Unit) = fun d => (fun _ : Dev nD => (0 : CellTallies nD τ sig Unit)) d + tallyAt (xCell (nx d 2) 1 2) () (xAmt 1) from rfl,
    Pipeline.launchCred_add]
  unfold creds credK
  iintro ⟨⟨⟨⟨⟨⟨⟨⟨⟨-, HX2⟩, HD2⟩, HX1⟩, HD1⟩, HX0⟩, HD0⟩, HB2⟩, HB1⟩, HB0⟩
  isplitl [HB0 HB1 HB2]
  · iapply (bar_creds (F := F) c)
    isplitl [HB0]; · iapply (cred_around (F := F) (.reg barS) 0 1 c); iexact HB0
    isplitl [HB1]; · iapply (cred_around (F := F) (.reg barS) 1 1 c); iexact HB1
    iapply (cred_around (F := F) (.reg barS) 2 1 c); iexact HB2
  isplitl [HX0 HD0]
  · isplitl [HX0]; · iapply (cred_around (F := F) (.dma (xsem 1 0)) 0 (xAmt 1) c); iexact HX0
    iapply (cred_around (F := F) (.dma (xsem 3 0)) 0 (xAmt 3) c); iexact HD0
  isplitl [HX1 HD1]
  · isplitl [HX1]; · iapply (cred_around (F := F) (.dma (xsem 1 1)) 1 (xAmt 1) c); iexact HX1
    iapply (cred_around (F := F) (.dma (xsem 3 1)) 1 (xAmt 3) c); iexact HD1
  · isplitl [HX2]; · iapply (cred_around (F := F) (.dma (xsem 1 2)) 2 (xAmt 1) c); iexact HX2
    iapply (cred_around (F := F) (.dma (xsem 3 2)) 2 (xAmt 3) c); iexact HD2

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, ⟨⟨H00, H01, H02⟩, ⟨H10, H11, H12⟩, ⟨H20, H21, H22⟩, H3⟩, HzB⟩
  isplitl [HzB]; · iexact HzB
  isplitr [Hr]
  · isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    iexact H3
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair execution terminates, and in
    every final state each device's arrays hold the stated contents and every semaphore counter is zero. -/
theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_x (c : Dev nD) : finalA m ρ c (0 : Fin 3) = m ((c : Thread nD τ).loc main_arg0) :=
  (dats (F := F) m ρ 0 c).arrAt_in (0 : Fin 3) rfl _
theorem finalA_d (c : Dev nD) : finalA m ρ c (1 : Fin 3) = m ((c : Thread nD τ).loc main_arg1) :=
  (dats (F := F) m ρ 0 c).arrAt_in (1 : Fin 3) rfl _

/-! ## The blocks of the windows: each window is its whole array -/

theorem emb0 (t : Fin cfg0.N) (j : S512x256.Idx) : ((cfg0.win 0).blk t).view.emb j = j := by
  rw [fin_N0 t]
  funext a; apply Fin.ext
  match a with
  | ⟨0, _⟩ => show 0 * 512 + 1 * (j 0).val = (j 0).val; omega
  | ⟨1, _⟩ => show 0 * 256 + 1 * (j 1).val = (j 1).val; omega
theorem emb1 (t : Fin cfg0.N) (j : S512.Idx) : ((cfg0.win 1).blk t).view.emb j = j := by
  rw [fin_N0 t]
  funext a; apply Fin.ext
  match a with
  | ⟨0, _⟩ => show 0 * 512 + 1 * (j 0).val = (j 0).val; omega
theorem emb2 (t : Fin cfg0.N) (j : S512x256.Idx) : ((cfg0.win 2).blk t).view.emb j = j := by
  rw [fin_N0 t]
  funext a; apply Fin.ext
  match a with
  | ⟨0, _⟩ => show 0 * 512 + 1 * (j 0).val = (j 0).val; omega
  | ⟨1, _⟩ => show 0 * 256 + 1 * (j 1).val = (j 1).val; omega

/-- The staged arguments are the arguments. -/
theorem xstg_eq (c : Dev nD) : xstg m ρ c = m ((c : Thread nD τ).loc main_arg0) := by
  funext j
  show m ((c : Thread nD τ).loc main_arg0) (((cfg0.win 0).blk (0 : Fin 1)).view.emb j) = _
  exact congrArg _ (emb0 t0_0 j)
theorem dstg_eq (c : Dev nD) : dstg m ρ c = m ((c : Thread nD τ).loc main_arg1) := by
  funext j
  show m ((c : Thread nD τ).loc main_arg1) (((cfg0.win 1).blk (0 : Fin 1)).view.emb j) = _
  exact congrArg _ (emb1 t0_0 j)

/-- The result's array after the run holds what the body computes. -/
theorem finalA_out (c : Dev nD) : finalA m ρ c (2 : Fin 3) = outAt m ρ c :=
  (dats (F := F) m ρ 0 c).arrAt_eq_of_cover 2 (outAt m ρ c)
    (fun t _ => by
      funext j
      show outAt m ρ c j = outAt m ρ c (((cfg0.win 2).blk t).view.emb j)
      rw [emb2])
    (fun i => ⟨t0_0, flush0_2 _, by
      have h := ((cfg0.win 2).blk t0_0).view.emb_mem_set i; rwa [emb2] at h⟩)

/-- On the mesh of sixteen devices, for any float values, from any memory with zero counters: every weakly fair execution terminates, and in
    every final state each device's result is what its body computes, its arguments are unchanged and every semaphore counter is zero. -/
theorem run_main : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (finalA_out m ρ c), (h.1 c (0 : Fin 3)).trans (finalA_x m ρ c),
    (h.1 c (1 : Fin 3)).trans (finalA_d m ρ c)⟩, h.2⟩) (run_region m ρ)

/-- On the mesh, for any float values: the arguments end unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => (h.1 c).2, h.2⟩) (run_main m ρ)

/-- The idealized kernel runs, leaves its arguments unchanged and every counter at zero. -/
theorem frame_kernelIdeal : Cert.quiescent_KernelIdeal := fun m ρ _ => run_frame (F := Ideal) m ρ

/-! ## The kernel as printed: the same text, in its own module -/

theorem body_eq : (Cert.Kernel.cc0_body (F := F)) = (Cert.KernelIdeal.cc0_body (F := F)) := rfl

theorem defs0_eq : (Cert.Kernel.defs₀ (F := F)) = (Cert.KernelIdeal.defs₀ (F := F)) := by
  unfold Cert.Kernel.defs₀ Cert.KernelIdeal.defs₀
  refine congrArg Defs.onTc (funext fun p => ?_)
  match p with
  | (0 : Fin 1) =>
    funext x; obtain ⟨t, s⟩ := x
    exact congrFun (congrFun (congrFun (congrFun (congrFun (congrFun (congrFun (congrFun (congrFun (congrFun (congrFun (congrFun (congrFun (congrFun
      (congrFun (congrFun body_eq _) _) _) _) _) _) _) _) _) _) _) _) _) _) _) _

theorem defs_eq : (Cert.Kernel.defs (F := F)) = (Cert.KernelIdeal.defs (F := F)) :=
  congrArg (Pipeline.defs (Cert.KernelIdeal.pcfgs (F := F))) defs0_eq

/-- The kernel as printed runs, leaves its arguments unchanged and every counter at zero. -/
theorem frame_kernel : Cert.quiescent_Kernel := fun m ρ _ => by
  rw [defs_eq]
  exact run_frame (F := Bits) m ρ

end Cert.A2A

end
-- ==== Proof.Order.lean ====
/- The order of the rows: the stable sort of the destinations, read as a count of the rows that go before a row, and
   that count when every destination receives 512 rows. -/
module

public import Idealize.ShloMosaic.Lib.SortPrefix
public import Mathlib.Algebra.BigOperators.Fin
public import Mathlib.Algebra.Order.BigOperators.Group.Finset

@[expose] public section

noncomputable section

namespace Cert.A2A

open Idealize.ShloMosaic
open scoped BigOperators

/-- Inserting into a list depends only on how the list's elements compare with the element inserted. -/
theorem insertBefore_congr {ι : Type} (R R' : ι → ι → Bool) (a : ι) :
    ∀ l : List ι, (∀ b ∈ l, R b a = R' b a) → insertBefore R a l = insertBefore R' a l
  | [], _ => rfl
  | b :: l, h => by
    have hl := insertBefore_congr R R' a l fun c hc => h c (List.mem_cons_of_mem _ hc)
    simp only [insertBefore, h b (List.mem_cons_self ..), hl]

/-- The stable sort of a list depends only on how a later element compares with an earlier one. -/
theorem stableSort_congr_pairwise {ι : Type} (R R' : ι → ι → Bool) :
    ∀ l : List ι, (l.Pairwise fun a b => R b a = R' b a) → stableSort R l = stableSort R' l
  | [], _ => rfl
  | a :: l, h => by
    rw [List.pairwise_cons] at h
    have hl := stableSort_congr_pairwise R R' l h.2
    have hi : insertBefore R a (stableSort R' l) = insertBefore R' a (stableSort R' l) :=
      insertBefore_congr R R' a _ fun b hb => h.1 b ((perm_stableSort R' l).mem_iff.mp hb)
    show insertBefore R a (stableSort R l) = insertBefore R' a (stableSort R' l)
    rw [hl, hi]

/-- Row `a` goes before row `b`: its destination is smaller, or the same and `a` is the earlier row. -/
def goesBefore {n : ℕ} (D : Fin n → BitVec 32) (a b : Fin n) : Bool :=
  (D a).slt (D b) || (decide (D a = D b) && decide (a < b))

/-- The rows before and after one another by destination and then by row number: a strict total order. -/
theorem goesBefore_total {n : ℕ} (D : Fin n → BitVec 32) : StrictTotalBefore (goesBefore D) :=
  StrictTotalBefore.of_key_then_position (fun u v : BitVec 32 => u.slt v) D
    (fun u => by simp [BitVec.slt])
    (fun u v w h k => by
      simp only [BitVec.slt, decide_eq_true_eq] at h k ⊢
      omega)
    (fun u v => by
      simp only [BitVec.slt, decide_eq_true_eq]
      rcases lt_trichotomy u.toInt v.toInt with h | h | h
      · exact Or.inl h
      · exact Or.inr (Or.inl (BitVec.eq_of_toInt_eq h))
      · exact Or.inr (Or.inr h))

/-- The stable sort by destination alone is the sort by destination and row number. -/
theorem sortedFrom_slt {n : ℕ} (D : Fin n → BitVec 32) :
    sortedFrom (fun a b => (D a).slt (D b)) = sortedFrom (goesBefore D) := by
  have h : sortPositions n (fun a b => (D a).slt (D b)) = sortPositions n (goesBefore D) := by
    refine stableSort_congr_pairwise _ _ _ ((List.pairwise_lt_finRange n).imp fun {a b} hab => ?_)
    simp [goesBefore, not_lt_of_gt hab]
  funext k
  unfold sortedFrom
  rw [List.get_of_eq h]
  rfl

/-- The number of rows that go before row `a`. -/
def rowPlace {n : ℕ} (D : Fin n → BitVec 32) (a : Fin n) : ℕ :=
  (Finset.univ.filter fun b => goesBefore D b a = true).card

/-- The row that the sort puts at position `p` has `p` rows before it. -/
theorem rowPlace_sorted {n : ℕ} (D : Fin n → BitVec 32) (p : Fin n) :
    rowPlace D (sortedFrom (goesBefore D) p) = p.val := by
  have hT := goesBefore_total D
  have hinj := sortedFrom_injective (goesBefore D)
  have hsur := sortedFrom_surjective (goesBefore D)
  have hmono : ∀ i j : Fin n, i < j → goesBefore D (sortedFrom (goesBefore D) i) (sortedFrom (goesBefore D) j) = true := by
    intro i j hij
    have h := sortedFrom_noInversion (goesBefore D) (goesBefore D) hT.asymm (fun _ _ h => h) hT.negTrans i j hij
    rcases hT.total (sortedFrom (goesBefore D) i) (sortedFrom (goesBefore D) j) (fun e => (ne_of_lt hij) (hinj e)) with h' | h'
    · exact h'
    · rw [h] at h'; exact absurd h' (by decide)
  have hiff : ∀ q : Fin n, goesBefore D (sortedFrom (goesBefore D) q) (sortedFrom (goesBefore D) p) = true ↔ q < p := by
    intro q
    refine ⟨fun h => ?_, hmono q p⟩
    by_contra hq
    rcases lt_or_eq_of_le (not_lt.mp hq) with h' | h'
    · rw [hT.asymm _ _ (hmono p q h')] at h; exact absurd h (by decide)
    · subst h'; rw [hT.irrefl] at h; exact absurd h (by decide)
  have himg : (Finset.univ.filter fun b => goesBefore D b (sortedFrom (goesBefore D) p) = true)
      = (Finset.Iio p).image (sortedFrom (goesBefore D)) := by
    ext b
    simp only [Finset.mem_filter, Finset.mem_univ, true_and, Finset.mem_image, Finset.mem_Iio]
    constructor
    · intro h
      obtain ⟨q, rfl⟩ := hsur b
      exact ⟨q, (hiff q).mp h, rfl⟩
    · rintro ⟨q, hq, rfl⟩
      exact (hiff q).mpr hq
  unfold rowPlace
  rw [himg, Finset.card_image_of_injective _ hinj, Fin.card_Iio]

/-- Two rows with equally many rows before them are the same row. -/
theorem rowPlace_injective {n : ℕ} (D : Fin n → BitVec 32) : Function.Injective (rowPlace D) := by
  intro a b h
  obtain ⟨p, rfl⟩ := sortedFrom_surjective (goesBefore D) a
  obtain ⟨q, rfl⟩ := sortedFrom_surjective (goesBefore D) b
  rw [rowPlace_sorted, rowPlace_sorted] at h
  rw [Fin.ext h]

/-- Row `k` of source `s` among all the rows. -/
def rowOf (s : Fin 4) (k : Fin 512) : Fin 2048 := ⟨512 * s.val + k.val, by have := s.isLt; have := k.isLt; omega⟩

/-- The rows, by source and row of the source. -/
def rowPair : Fin 4 × Fin 512 ≃ Fin 2048 where
  toFun p := rowOf p.1 p.2
  invFun a := (⟨a.val / 512, by have := a.isLt; omega⟩, ⟨a.val % 512, Nat.mod_lt _ (by decide)⟩)
  left_inv p := by
    obtain ⟨s, k⟩ := p
    have := s.isLt; have := k.isLt
    refine Prod.ext (Fin.ext ?_) (Fin.ext ?_) <;> simp only [rowOf] <;> omega
  right_inv a := Fin.ext (by simp only [rowOf]; omega)

/-- Every row is some source's. -/
theorem exists_rowOf (a : Fin 2048) : ∃ s k, rowOf s k = a :=
  ⟨(rowPair.symm a).1, (rowPair.symm a).2, rowPair.apply_symm_apply a⟩

/-- The source and the row of the source are told by the row. -/
theorem rowOf_inj {s s' : Fin 4} {k k' : Fin 512} (h : rowOf s k = rowOf s' k') : s = s' ∧ k = k' := by
  have := rowPair.injective (a₁ := (s, k)) (a₂ := (s', k')) h
  exact ⟨congrArg Prod.fst this, congrArg Prod.snd this⟩

/-- A count of rows is a sum over the sources and their rows. -/
theorem card_rows (P : Fin 2048 → Prop) [DecidablePred P] :
    (Finset.univ.filter P).card = ∑ s : Fin 4, ∑ k : Fin 512, if P (rowOf s k) then 1 else 0 := by
  rw [Finset.card_filter, ← Equiv.sum_comp rowPair, Fintype.sum_prod_type]
  rfl

/-- How many rows source `s` sends to destination `r`. -/
def cnt (D : Fin 2048 → BitVec 32) (s : Fin 4) (r : ℕ) : ℕ :=
  (Finset.univ.filter fun k : Fin 512 => D (rowOf s k) = BitVec.ofNat 32 r).card

/-- How many rows the sources before `s` send to destination `r`. -/
def off (D : Fin 2048 → BitVec 32) (s : Fin 4) (r : ℕ) : ℕ := ∑ s' : Fin 4, if s' < s then cnt D s' r else 0

/-- How many rows of source `s` before row `k` go to destination `r`. -/
def rnk (D : Fin 2048 → BitVec 32) (s : Fin 4) (r : ℕ) (k : Fin 512) : ℕ :=
  (Finset.univ.filter fun k' : Fin 512 => k' < k ∧ D (rowOf s k') = BitVec.ofNat 32 r).card

/-- No source sends more than 160 rows to a destination, and every destination receives 512. -/
structure Fits (D : Fin 2048 → BitVec 32) : Prop where
  le : ∀ s r : Fin 4, cnt D s r.val ≤ 160
  sum : ∀ r : Fin 4, ∑ s : Fin 4, cnt D s r.val = 512

section fits
variable {D : Fin 2048 → BitVec 32} (hD : Fits D)
include hD

/-- The rows of destination `r` are 512. -/
theorem Fits.card (r : Fin 4) : (Finset.univ.filter fun a => D a = BitVec.ofNat 32 r.val).card = 512 := by
  rw [card_rows]
  refine Eq.trans ?_ (hD.sum r)
  refine Finset.sum_congr rfl fun s _ => ?_
  rw [cnt, Finset.card_filter]

/-- Every row's destination is one of the four. -/
theorem Fits.range (a : Fin 2048) : ∃ r : Fin 4, D a = BitVec.ofNat 32 r.val := by
  classical
  have hdis : Set.PairwiseDisjoint (↑(Finset.univ : Finset (Fin 4)))
      (fun r : Fin 4 => Finset.univ.filter fun a => D a = BitVec.ofNat 32 r.val) := by
    intro r _ r' _ hne
    refine Finset.disjoint_left.mpr fun b hb hb' => hne ?_
    simp only [Finset.mem_filter, Finset.mem_univ, true_and] at hb hb'
    have := congrArg BitVec.toNat (hb.symm.trans hb')
    simp only [BitVec.toNat_ofNat] at this
    have := r.isLt; have := r'.isLt
    exact Fin.ext (by omega)
  have hc : ((Finset.univ : Finset (Fin 4)).biUnion
      fun r : Fin 4 => Finset.univ.filter fun a => D a = BitVec.ofNat 32 r.val).card = 2048 := by
    rw [Finset.card_biUnion hdis]
    simp only [hD.card]
    simp
  have hu := Finset.eq_univ_of_card _ (hc.trans (Fintype.card_fin 2048).symm)
  have ha : a ∈ (Finset.univ : Finset (Fin 4)).biUnion
      fun r : Fin 4 => Finset.univ.filter fun a => D a = BitVec.ofNat 32 r.val := by rw [hu]; exact Finset.mem_univ a
  simpa using ha

/-- Row `k` of source `s`, its destination `r`, has before it the rows of the smaller destinations, the rows that the
    earlier sources send to `r`, and the earlier rows of its source that go to `r`. -/
theorem Fits.place (s r : Fin 4) (k : Fin 512) (h : D (rowOf s k) = BitVec.ofNat 32 r.val) :
    rowPlace D (rowOf s k) = 512 * r.val + (off D s r.val + rnk D s r.val k) := by
  classical
  have hslt : ∀ a, (D a).slt (BitVec.ofNat 32 r.val) = true ↔ ∃ r' : Fin 4, r' < r ∧ D a = BitVec.ofNat 32 r'.val := by
    have key : ∀ r r' : Fin 4, (BitVec.ofNat 32 r'.val).slt (BitVec.ofNat 32 r.val) = true ↔ r' < r := by decide
    have key2 : ∀ r r' : Fin 4, BitVec.ofNat 32 r'.val = BitVec.ofNat 32 r.val → r' = r := by decide
    intro a
    obtain ⟨ra, hra⟩ := hD.range a
    rw [hra, key]
    exact ⟨fun h => ⟨ra, h, rfl⟩, fun ⟨r', h, e⟩ => key2 _ _ e ▸ h⟩
  have h1 : (Finset.univ.filter fun a => (D a).slt (BitVec.ofNat 32 r.val) = true).card = 512 * r.val := by
    have he : (Finset.univ.filter fun a => (D a).slt (BitVec.ofNat 32 r.val) = true)
        = (Finset.univ.filter fun r' : Fin 4 => r' < r).biUnion
            fun r' => Finset.univ.filter fun a => D a = BitVec.ofNat 32 r'.val := by
      ext a
      simp only [Finset.mem_filter, Finset.mem_univ, true_and, Finset.mem_biUnion, hslt]
    rw [he, Finset.card_biUnion]
    · simp only [hD.card, Finset.sum_const, smul_eq_mul]
      have : ∀ r : Fin 4, (Finset.univ.filter fun r' : Fin 4 => r' < r).card * 512 = 512 * r.val := by decide
      exact this r
    · intro x _ y _ hne
      refine Finset.disjoint_left.mpr fun b hb hb' => hne ?_
      simp only [Finset.mem_filter, Finset.mem_univ, true_and] at hb hb'
      have key2 : ∀ r r' : Fin 4, BitVec.ofNat 32 r'.val = BitVec.ofNat 32 r.val → r' = r := by decide
      exact key2 _ _ (hb.symm.trans hb')
  have h2 : (Finset.univ.filter fun a => D a = BitVec.ofNat 32 r.val ∧ a < rowOf s k).card
      = off D s r.val + rnk D s r.val k := by
    rw [card_rows]
    have hs : ∀ s' : Fin 4, (∑ k' : Fin 512, if D (rowOf s' k') = BitVec.ofNat 32 r.val ∧ rowOf s' k' < rowOf s k then 1 else 0)
        = (if s' < s then cnt D s' r.val else 0) + (if s' = s then rnk D s r.val k else 0) := by
      intro s'
      rcases lt_trichotomy s' s with hlt | heq | hgt
      · rw [if_pos hlt, if_neg (ne_of_lt hlt), add_zero, cnt, Finset.card_filter]
        refine Finset.sum_congr rfl fun k' _ => ?_
        have : rowOf s' k' < rowOf s k := by
          have := k'.isLt; rw [Fin.lt_def] at hlt ⊢; simp only [rowOf]; omega
        simp [this]
      · subst heq
        rw [if_neg (lt_irrefl _), if_pos rfl, zero_add, rnk, Finset.card_filter]
        refine Finset.sum_congr rfl fun k' _ => ?_
        have : rowOf s' k' < rowOf s' k ↔ k' < k := by
          rw [Fin.lt_def, Fin.lt_def]; simp only [rowOf]; omega
        simp only [this, and_comm]
      · rw [if_neg (not_lt_of_gt hgt), if_neg (ne_of_gt hgt), add_zero]
        refine Finset.sum_eq_zero fun k' _ => if_neg fun h => ?_
        have h := h.2
        have := k.isLt; rw [Fin.lt_def] at hgt h; simp only [rowOf] at h; omega
    rw [Finset.sum_congr rfl fun s' _ => hs s', Finset.sum_add_distrib, Finset.sum_ite_eq']
    simp [off]
  rw [← h1, ← h2, rowPlace, ← Finset.card_union_of_disjoint]
  · congr 1
    ext a
    simp [goesBefore, h]
  · refine Finset.disjoint_left.mpr fun b hb hb' => ?_
    simp only [Finset.mem_filter, Finset.mem_univ, true_and] at hb hb'
    rw [hb'.1] at hb
    simp [BitVec.slt] at hb

omit hD in
/-- A row's place among its source's rows to `r` is below their number. -/
theorem rnk_lt_cnt (s : Fin 4) (r : ℕ) (k : Fin 512) (h : D (rowOf s k) = BitVec.ofNat 32 r) : rnk D s r k < cnt D s r := by
  refine Finset.card_lt_card (Finset.ssubset_iff_subset_ne.mpr ⟨fun x hx => ?_, fun e => ?_⟩)
  · simp only [Finset.mem_filter, Finset.mem_univ, true_and] at hx ⊢; exact hx.2
  · have hk : k ∈ Finset.univ.filter fun k : Fin 512 => D (rowOf s k) = BitVec.ofNat 32 r := by simp [h]
    rw [← e] at hk
    simp at hk

/-- The rows for `r` of a source and of the sources before it are at most 512. -/
theorem Fits.off_add_le (s r : Fin 4) : off D s r.val + cnt D s r.val ≤ 512 := by
  refine le_of_le_of_eq ?_ (hD.sum r)
  rw [off]
  have h : ∑ s' : Fin 4, ((if s' < s then cnt D s' r.val else 0) + (if s' = s then cnt D s r.val else 0)) ≤ ∑ s' : Fin 4, cnt D s' r.val := by
    refine Finset.sum_le_sum fun s' _ => ?_
    rcases lt_trichotomy s' s with hlt | heq | hgt
    · rw [if_pos hlt, if_neg (ne_of_lt hlt), add_zero]
    · subst heq; rw [if_neg (lt_irrefl _), if_pos rfl, zero_add]
    · rw [if_neg (not_lt_of_gt hgt), if_neg (ne_of_gt hgt)]; exact Nat.zero_le _
  rwa [Finset.sum_add_distrib, Finset.sum_ite_eq', if_pos (Finset.mem_univ s)] at h

/-- The row that the sort puts at position `512 z + i` goes to `z`, and `i` counts the rows for `z` of the earlier
    sources and the earlier rows for `z` of its own. -/
theorem Fits.sorted (z : Fin 4) (i : Fin 512) :
    ∃ s k, sortedFrom (goesBefore D) (rowOf z i) = rowOf s k ∧ D (rowOf s k) = BitVec.ofNat 32 z.val
      ∧ i.val = off D s z.val + rnk D s z.val k := by
  obtain ⟨s, k, e⟩ := exists_rowOf (sortedFrom (goesBefore D) (rowOf z i))
  obtain ⟨r, hr⟩ := hD.range (rowOf s k)
  have hp := hD.place s r k hr
  rw [e, rowPlace_sorted] at hp
  have hv : (rowOf z i).val = 512 * z.val + i.val := rfl
  have h1 := rnk_lt_cnt s r.val k hr
  have h2 := hD.off_add_le s r
  have := i.isLt
  have hz : r = z := Fin.ext (by omega)
  subst hz
  exact ⟨s, k, e.symm, hr, by omega⟩

/-- Two rows for `z` with the same count before them are the same row. -/
theorem Fits.unique (z s s' : Fin 4) (k k' : Fin 512) (h : D (rowOf s k) = BitVec.ofNat 32 z.val)
    (h' : D (rowOf s' k') = BitVec.ofNat 32 z.val)
    (e : off D s z.val + rnk D s z.val k = off D s' z.val + rnk D s' z.val k') : s = s' ∧ k = k' :=
  rowOf_inj (rowPlace_injective D (by rw [hD.place s z k h, hD.place s' z k' h', e]))

end fits

end Cert.A2A

end
-- ==== Proof.Seg.lean ====
/- The block that a device packs for a place, element by element, over exact numbers: slot `j` of the block holds the
   `j`-th of the device's rows for that place, and zero where there is none. -/
module

public import proofs.«01_k».proof.Proof.Body
public import proofs.«01_k».proof.Proof.Order
public import Idealize.ShloMosaic.Lib.Pointwise
public import Idealize.ShloMosaic.Lib.Affine

@[expose] public section

set_option maxRecDepth 16384

noncomputable section

namespace Cert.A2A

open Cert.KernelIdeal Cert.KernelIdeal.Gen Idealize.ShloMosaic
open scoped BigOperators

/-- A widened one-bit word as a number: one or zero. -/
theorem bit_number (p : BitVec 1) :
    (FloatOps.sitofp (F := Ideal) FTy.f32 (BitVec.setWidth 32 p) : EReal) = if p = 1#1 then 1 else 0 := by
  rcases BitVec.eq_zero_or_eq_one p with rfl | rfl
  · show (((BitVec.setWidth 32 0#1).toInt : ℝ) : EReal) = _
    simp
  · show (((BitVec.setWidth 32 1#1).toInt : ℝ) : EReal) = _
    simp

/-- A sum of ones and zeros is the number of the ones. -/
theorem sum_bits {ι : Type} (S : Finset ι) (p : ι → Prop) [DecidablePred p] :
    ∑ k ∈ S, (if p k then (1 : EReal) else 0) = (((S.filter p).card : ℝ) : EReal) := by
  classical
  induction S using Finset.induction_on with
  | empty => simp
  | insert a S ha ih =>
    rw [Finset.sum_insert ha, ih, Finset.filter_insert]
    by_cases h : p a
    · rw [if_pos h, if_pos h, Finset.card_insert_of_notMem (fun hm => ha (Finset.mem_filter.1 hm).1)]
      rw [Nat.cast_add, Nat.cast_one, EReal.coe_add, EReal.coe_one, add_comm]
    · rw [if_neg h, if_neg h, zero_add]

/-- A small count converted to a word is the word of that count. -/
theorem fptosi_count (n : ℕ) (hn : n ≤ 512) : (FloatOps.fptosi (F := Ideal) (φ := .f32) 32 (((n : ℝ) : EReal)) : BitVec 32) = BitVec.ofNat 32 n := by
  show BitVec.ofInt 32 (max (-(2 ^ (32 - 1) : Nat) : Int) (min (((2 ^ (32 - 1) : Nat) : Int) - 1) (if 0 ≤ (n : ℝ) then ⌊(n : ℝ)⌋ else ⌈(n : ℝ)⌉))) = _
  rw [if_pos (Nat.cast_nonneg n), Int.floor_natCast]
  have : max (-(2 ^ (32 - 1) : Nat) : Int) (min (((2 ^ (32 - 1) : Nat) : Int) - 1) (n : Int)) = (n : Int) := by omega
  rw [this]
  simp

/-- A small number's word reads back, signed, as the number. -/
theorem toInt_small (n : ℕ) (hn : n < 512) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- How many of the rows up to row `k` have destination `r`. -/
def hits (d : Fin 512 → BitVec 32) (r : ℕ) (k : Fin 512) : ℕ :=
  (Finset.univ.filter fun k' : Fin 512 => k' ≤ k ∧ d k' = BitVec.ofNat 32 r).card

/-- That number is at most 512. -/
theorem hits_le (d : Fin 512 → BitVec 32) (r : ℕ) (k : Fin 512) : hits d r k ≤ 512 :=
  (Finset.card_le_univ _).trans (le_of_eq (Fintype.card_fin 512))

/-- Whether row `k` goes to place `r`, as a word. -/
theorem pay3_val (d : Vec Ideal S512 .i32) (r : Fin 4) (k : Fin 512) :
    k0_pay3 d (ix2 r k) = BitVec.setWidth 32 (IntOp.cmpi CmpIPredicate.eq (BitVec.ofNat 32 r.val) (d (ix1 k))) := by
  pointwise [k0_pay3]

/-- The running count of the rows for place `r`. -/
theorem pay4_val (d : Vec Ideal S512 .i32) (r : Fin 4) (k : Fin 512) :
    k0_pay4 (F := Ideal) d (ix2 r k) = BitVec.ofNat 32 (hits (fun k' => d (ix1 k')) r.val k) := by
  pointwise [k0_pay4]
  simp only [pay3_val]
  rw [← fptosi_count _ (hits_le _ _ _)]
  refine congrArg (FloatOps.fptosi (F := Ideal) (φ := .f32) 32) ?_
  rw [hits, ← sum_bits]
  refine Finset.sum_congr rfl fun k' _ => ?_
  rw [bit_number, bit_number]
  have h1 : IntOp.cmpi CmpIPredicate.eq (BitVec.ofNat 32 r.val) (d (ix1 k')) = 1#1 ↔ d (ix1 k') = BitVec.ofNat 32 r.val := by
    rw [IntOp.cmpi_eq, eq_comm]
  have h2 : IntOp.cmpi CmpIPredicate.sle (BitVec.ofNat 32 k'.val) (BitVec.ofNat 32 k.val) = 1#1 ↔ k' ≤ k := by
    rw [IntOp.cmpi_sle, toInt_small _ k'.isLt, toInt_small _ k.isLt, Fin.le_def, Int.ofNat_le]
  simp only [h1, h2]
  by_cases h : d (ix1 k') = BitVec.ofNat 32 r.val <;> by_cases h' : k' ≤ k <;> simp [h, h']

/-- Slot `j` is the slot of row `k` exactly when the row goes to place `r` and is the `j`-th that does. -/
theorem slot_iff (d : Fin 512 → BitVec 32) (r : Fin 4) (j : Fin 160) (k : Fin 512) :
    IntOp.cmpi CmpIPredicate.eq (BitVec.ofNat 32 j.val)
      (Scalar.select (IntOp.cmpi CmpIPredicate.sgt
          (BitVec.setWidth 32 (IntOp.cmpi CmpIPredicate.eq (BitVec.ofNat 32 r.val) (d k))) 0#32)
        (IntOp.subi (BitVec.ofNat 32 (hits d r.val k)) 1#32) 4294967295#32) = 1#1
      ↔ d k = BitVec.ofNat 32 r.val ∧ hits d r.val k = j.val + 1 := by
  have hj := j.isLt
  have hle := hits_le d r.val k
  rw [IntOp.cmpi_eq]
  by_cases h : d k = BitVec.ofNat 32 r.val
  · have he : IntOp.cmpi CmpIPredicate.eq (BitVec.ofNat 32 r.val) (d k) = 1#1 := IntOp.cmpi_eq.mpr h.symm
    have hpos : 1 ≤ hits d r.val k := Finset.card_pos.mpr ⟨k, by simp [h]⟩
    rw [he]
    have hsel : IntOp.cmpi CmpIPredicate.sgt (BitVec.setWidth 32 1#1) 0#32 = 1#1 := by decide
    rw [hsel]
    show BitVec.ofNat 32 j.val = BitVec.ofNat 32 (hits d r.val k) - 1#32 ↔ _
    rw [← BitVec.toNat_inj, BitVec.toNat_sub, BitVec.toNat_ofNat, BitVec.toNat_ofNat]
    simp only [h, true_and]
    rw [BitVec.toNat_ofNat]
    omega
  · have he : IntOp.cmpi CmpIPredicate.eq (BitVec.ofNat 32 r.val) (d k) = 0#1 :=
      (BitVec.eq_zero_or_eq_one _).resolve_right fun e => h (IntOp.cmpi_eq.mp e).symm
    rw [he]
    have hsel : IntOp.cmpi CmpIPredicate.sgt (BitVec.setWidth 32 0#1) 0#32 = 0#1 := by decide
    rw [hsel]
    show BitVec.ofNat 32 j.val = 4294967295#32 ↔ _
    refine ⟨fun e => ?_, fun e => absurd e.1 h⟩
    have := congrArg BitVec.toNat e
    rw [BitVec.toNat_ofNat] at this
    have h2 : (4294967295#32).toNat = 4294967295 := rfl
    rw [h2] at this
    omega

/-- Row `k`'s contribution to slot `j` of the block for place `r`: the row when the slot is its slot, else zero. -/
theorem slot_term (d : Fin 512 → BitVec 32) (r : Fin 4) (j : Fin 160) (k : Fin 512) (v : EReal) :
    (FloatOps.sitofp (F := Ideal) FTy.f32 (BitVec.setWidth 32 (IntOp.cmpi CmpIPredicate.eq (BitVec.ofNat 32 j.val)
      (Scalar.select (IntOp.cmpi CmpIPredicate.sgt
          (BitVec.setWidth 32 (IntOp.cmpi CmpIPredicate.eq (BitVec.ofNat 32 r.val) (d k))) 0#32)
        (IntOp.subi (BitVec.ofNat 32 (hits d r.val k)) 1#32) 4294967295#32))) : EReal) * v
      = if d k = BitVec.ofNat 32 r.val ∧ hits d r.val k = j.val + 1 then v else 0 := by
  rw [bit_number]
  simp only [slot_iff]
  split <;> simp

variable (m : (ℓ : Loc nD τ sig) → Buf (Elt Ideal) ℓ) (ρ : Dev nD → PrngReg)

/-- Slot `j` of the block that device `c` packs for place `r`: the row whose slot it is. -/
theorem segAt_val (c : Dev nD) (r : Fin 4) (j : Fin 160) (col : Fin 256) :
    (segAt m ρ c r (ix3 (0 : Fin 1) j col) : EReal)
      = ∑ k : Fin 512, if dstg m ρ c (ix1 k) = BitVec.ofNat 32 r.val ∧ hits (fun k' => dstg m ρ c (ix1 k')) r.val k = j.val + 1
          then (xstg m ρ c (ix2 k col) : EReal) else 0 := by
  have fin (f : Fin 512 → EReal) (h : ∀ k, f k = if dstg m ρ c (ix1 k) = BitVec.ofNat 32 r.val ∧ hits (fun k' => dstg m ρ c (ix1 k')) r.val k = j.val + 1
          then (xstg m ρ c (ix2 k col) : EReal) else 0) : ∑ k, f k = ∑ k : Fin 512, if dstg m ρ c (ix1 k) = BitVec.ofNat 32 r.val ∧ hits (fun k' => dstg m ρ c (ix1 k')) r.val k = j.val + 1
          then (xstg m ρ c (ix2 k col) : EReal) else 0 := Finset.sum_congr rfl fun k _ => h k
  match r with
  | 0 =>
    refine Eq.trans ?_ (fin _ fun k => slot_term (fun k' => dstg m ρ c (ix1 k')) 0 j k (xstg m ρ c (ix2 k col)))
    show k0_pay6 (F := Ideal) (k0_pay5 (dstg m ρ c) (xstg m ρ c)) (ix3 0 j col) = _
    pointwise [k0_pay6, k0_pay5, k0_pay2]
    simp only [pay3_val, pay4_val]
    rfl
  | 1 =>
    refine Eq.trans ?_ (fin _ fun k => slot_term (fun k' => dstg m ρ c (ix1 k')) 1 j k (xstg m ρ c (ix2 k col)))
    show k0_pay7 (F := Ideal) (k0_pay2 (xstg m ρ c)) (k0_pay3 (dstg m ρ c)) (k0_pay4 (dstg m ρ c)) (iota .tc S160x512 32 [0] iota_S160x512_d0_w32) (ix3 0 j col) = _
    pointwise [k0_pay7, k0_pay2]
    simp only [pay3_val, pay4_val]
    rfl
  | 2 =>
    refine Eq.trans ?_ (fin _ fun k => slot_term (fun k' => dstg m ρ c (ix1 k')) 2 j k (xstg m ρ c (ix2 k col)))
    show k0_pay8 (F := Ideal) (k0_pay2 (xstg m ρ c)) (k0_pay3 (dstg m ρ c)) (k0_pay4 (dstg m ρ c)) (iota .tc S160x512 32 [0] iota_S160x512_d0_w32) (ix3 0 j col) = _
    pointwise [k0_pay8, k0_pay2]
    simp only [pay3_val, pay4_val]
    rfl
  | 3 =>
    refine Eq.trans ?_ (fin _ fun k => slot_term (fun k' => dstg m ρ c (ix1 k')) 3 j k (xstg m ρ c (ix2 k col)))
    show k0_pay10 (F := Ideal) (k0_pay2 (xstg m ρ c)) (k0_pay4 (dstg m ρ c)) (iota .tc S160x512 32 [0] iota_S160x512_d0_w32) (k0_pay9 (k0_pay3 (dstg m ρ c))) (ix3 0 j col) = _
    pointwise [k0_pay9, k0_pay10, k0_pay2]
    simp only [pay3_val, pay4_val]
    rfl

end Cert.A2A

end
-- ==== Proof.Out.lean ====
/- The result of a device, element by element, over exact numbers: row `i` of the result is the row that the count of the
   rows for the device puts there. -/
module

public import proofs.«01_k».proof.Proof.Seg
public import Idealize.ShloMosaic.Lib.IndicatorCount

@[expose] public section

set_option maxRecDepth 16384

noncomputable section

namespace Cert.A2A

open Cert.KernelIdeal Cert.KernelIdeal.Gen Idealize.ShloMosaic
open scoped BigOperators

/-- The rows of a source whose destination is the word `w`, counted by adding one bit for each. -/
theorem fold_count (f : Fin 512 → BitVec 32) (w : BitVec 32) :
    Finset.fold IntOp.addi (0#32) (fun x : Fin 1 × Fin 512 => BitVec.setWidth 32 (IntOp.cmpi CmpIPredicate.eq (f x.2) w)) Finset.univ
      = BitVec.ofNat 32 (Finset.univ.filter fun k : Fin 512 => f k = w).card := by
  rw [IndicatorCount.fold_addi_setWidth_eq_card (fun x : Fin 1 × Fin 512 => IntOp.cmpi CmpIPredicate.eq (f x.2) w)]
  congr 1
  refine Finset.card_bij (fun x _ => x.2) (fun x hx => ?_) (fun x _ y _ h => Prod.ext (Subsingleton.elim _ _) h) (fun k hk => ⟨(0, k), ?_, rfl⟩)
  · simpa [IntOp.cmpi_eq] using hx
  · simpa [IntOp.cmpi_eq] using hk

/-- The first source's rows for the place of word `w`, counted. -/
theorem count12 (d : Vec Ideal S512 .i32) (w : BitVec 32) :
    extractAt ![0, 0, 0] (k0_pay12 (F := Ideal) w (k0_pay1 d)) inpos_S1x1x1_p0_0_0
      = BitVec.ofNat 32 (Finset.univ.filter fun k : Fin 512 => d (ix1 k) = w).card := by
  pointwise [k0_pay12, k0_pay1]
  exact fold_count (fun k => d (ix1 k)) w

/-- The second source's rows for the place of word `w`, counted. -/
theorem count13 (d : Vec Ideal S512 .i32) (w : BitVec 32) :
    extractAt ![0, 0, 0] (k0_pay13 (F := Ideal) w (k0_pay1 d)) inpos_S1x1x1_p0_0_0
      = BitVec.ofNat 32 (Finset.univ.filter fun k : Fin 512 => d (ix1 k) = w).card := by
  pointwise [k0_pay13, k0_pay1]
  exact fold_count (fun k => d (ix1 k)) w

/-- The third source's rows for the place of word `w`, counted. -/
theorem count14 (d : Vec Ideal S512 .i32) (w : BitVec 32) :
    extractAt ![0, 0, 0] (k0_pay14 (F := Ideal) w (k0_pay1 d)) inpos_S1x1x1_p0_0_0
      = BitVec.ofNat 32 (Finset.univ.filter fun k : Fin 512 => d (ix1 k) = w).card := by
  pointwise [k0_pay14, k0_pay1]
  exact fold_count (fun k => d (ix1 k)) w

/-- Where the block of the source of word `p` starts, of the three running counts. -/
def offW (p p1 p2 p3 : BitVec 32) : BitVec 32 :=
  Scalar.addi
    (Scalar.addi
      (Scalar.addi (Scalar.addi 0#32 0#32) (Scalar.select (Scalar.cmpi CmpIPredicate.eq p 1#32) p1 0#32))
      (Scalar.select (Scalar.cmpi CmpIPredicate.eq p 2#32) p2 0#32))
    (Scalar.select (Scalar.cmpi CmpIPredicate.eq p 3#32) p3 0#32)

/-- Whether slot `j` of a block that starts at the word `o` is row `i` of the result, as a number. -/
def atRow (i : Fin 512) (j : Fin 160) (o : BitVec 32) : EReal :=
  FloatOps.sitofp (F := Ideal) FTy.f32 (BitVec.setWidth 32 (IntOp.cmpi CmpIPredicate.eq (BitVec.ofNat 32 i.val) (IntOp.addi (BitVec.ofNat 32 j.val) o)))

/-- That number is one exactly when `i` is `j` after the start. -/
theorem atRow_val (i : Fin 512) (j : Fin 160) (o : ℕ) (ho : o ≤ 512) : atRow i j (BitVec.ofNat 32 o) = if i.val = o + j.val then 1 else 0 := by
  rw [atRow, bit_number]
  have h : IntOp.cmpi CmpIPredicate.eq (BitVec.ofNat 32 i.val) (IntOp.addi (BitVec.ofNat 32 j.val) (BitVec.ofNat 32 o)) = 1#1 ↔ i.val = o + j.val := by
    rw [IntOp.cmpi_eq]
    show BitVec.ofNat 32 i.val = BitVec.ofNat 32 j.val + BitVec.ofNat 32 o ↔ _
    have := i.isLt; have := j.isLt
    rw [← BitVec.ofNat_add, ← BitVec.toNat_inj, BitVec.toNat_ofNat, BitVec.toNat_ofNat]
    omega
  simp only [h]

/-- The four sums of a result: a block's slots, each at its row, added to what was there. -/
theorem acc0_val (w p1 : BitVec 32) (d1 d2 : IVec S1x1x512 32) (s : FVec Ideal S1x160x256 .bf16) (i : Fin 512) (col : Fin 256) :
    (k0_pay18 (F := Ideal) k0_pay15 (k0_pay16 w rowIx colIx p1 d1 d2) (k0_pay17 s) (ix2 i col) : EReal)
      = ∑ j : Fin 160, atRow i j (offW w p1 (Scalar.addi p1 (extractAt ![0, 0, 0] (k0_pay13 (F := Ideal) w d1) inpos_S1x1x1_p0_0_0))
          (Scalar.addi (Scalar.addi p1 (extractAt ![0, 0, 0] (k0_pay13 (F := Ideal) w d1) inpos_S1x1x1_p0_0_0))
            (extractAt ![0, 0, 0] (k0_pay14 (F := Ideal) w d2) inpos_S1x1x1_p0_0_0))) * s (ix3 (0 : Fin 1) j col) := by
  pointwise [k0_pay18, k0_pay15, k0_pay16, k0_pay17]
  rfl

/-- The second of the four sums. -/
theorem acc1_val (w p1 p2 p3 : BitVec 32) (a : FVec Ideal S512x256 .f32) (s : FVec Ideal S1x160x256 .bf16) (i : Fin 512) (col : Fin 256) :
    (k0_pay20 (F := Ideal) a (k0_pay19 w rowIx colIx p1 p2 p3) s (ix2 i col) : EReal)
      = (a (ix2 i col) : EReal) + ∑ j : Fin 160, atRow i j (offW (Scalar.remsi (Scalar.addi w 1#32) 4#32) p1 p2 p3) * s (ix3 (0 : Fin 1) j col) := by
  pointwise [k0_pay20, k0_pay19]
  rfl

/-- The third of the four sums. -/
theorem acc2_val (w p1 p2 p3 : BitVec 32) (a : FVec Ideal S512x256 .f32) (s : FVec Ideal S1x160x256 .bf16) (i : Fin 512) (col : Fin 256) :
    (k0_pay22 (F := Ideal) a (k0_pay21 w rowIx colIx p1 p2 p3) s (ix2 i col) : EReal)
      = (a (ix2 i col) : EReal) + ∑ j : Fin 160, atRow i j (offW (Scalar.remsi (Scalar.addi w 3#32) 4#32) p1 p2 p3) * s (ix3 (0 : Fin 1) j col) := by
  pointwise [k0_pay22, k0_pay21]
  rfl

/-- The last of the four sums. -/
theorem acc3_val (w p1 p2 p3 : BitVec 32) (a : FVec Ideal S512x256 .f32) (s : FVec Ideal S1x160x256 .bf16) (i : Fin 512) (col : Fin 256) :
    (k0_pay24 (F := Ideal) rowIx a (k0_pay23 w colIx p1 p2 p3) s (ix2 i col) : EReal)
      = (a (ix2 i col) : EReal) + ∑ j : Fin 160, atRow i j (offW (Scalar.remsi (Scalar.addi w 2#32) 4#32) p1 p2 p3) * s (ix3 (0 : Fin 1) j col) := by
  pointwise [k0_pay24, k0_pay23]
  rfl

/-- The word of a device's place. -/
theorem zW_val (c : Dev nD) : zW c = BitVec.ofNat 32 (zc c).val := by revert c; decide
/-- The word of the place one after a device's. -/
theorem zW_one (c : Dev nD) : Scalar.remsi (Scalar.addi (zW c) 1#32) 4#32 = BitVec.ofNat 32 (zc c + 1).val := by revert c; decide
/-- The word of the place three after a device's. -/
theorem zW_three (c : Dev nD) : Scalar.remsi (Scalar.addi (zW c) 3#32) 4#32 = BitVec.ofNat 32 (zc c + 3).val := by revert c; decide
/-- The word of the place two after a device's. -/
theorem zW_two (c : Dev nD) : Scalar.remsi (Scalar.addi (zW c) 2#32) 4#32 = BitVec.ofNat 32 (zc c + 2).val := by revert c; decide
/-- The place of the device one after. -/
theorem zc_nx0 (c : Dev nD) : zc (nx c 0) = zc c + 1 := by revert c; decide
/-- The place of the device two after. -/
theorem zc_nx1 (c : Dev nD) : zc (nx c 1) = zc c + 2 := by revert c; decide
/-- The place of the device three after. -/
theorem zc_nx2 (c : Dev nD) : zc (nx c 2) = zc c + 3 := by revert c; decide

/-- Where the block of source `s` starts is the count of the rows that the sources before it send. -/
theorem offW_val (D : Fin 2048 → BitVec 32) (z : ℕ) (s : Fin 4) :
    offW (BitVec.ofNat 32 s.val) (BitVec.ofNat 32 (cnt D 0 z)) (BitVec.ofNat 32 (cnt D 0 z + cnt D 1 z))
      (BitVec.ofNat 32 (cnt D 0 z + cnt D 1 z + cnt D 2 z)) = BitVec.ofNat 32 (off D s z) := by
  have e (a b : BitVec 32) : Scalar.addi a b = a + b := rfl
  have t (x : BitVec 32) : Scalar.select 1#1 x 0#32 = x := rfl
  have f (x : BitVec 32) : Scalar.select 0#1 x 0#32 = 0#32 := rfl
  have o : off D s z = (if 0 < s then cnt D 0 z else 0) + (if 1 < s then cnt D 1 z else 0) + (if 2 < s then cnt D 2 z else 0) + (if 3 < s then cnt D 3 z else 0) := by
    rw [off, Fin.sum_univ_four]
  have c01 : Scalar.cmpi CmpIPredicate.eq 0#32 1#32 = 0#1 := rfl
  have c02 : Scalar.cmpi CmpIPredicate.eq 0#32 2#32 = 0#1 := rfl
  have c03 : Scalar.cmpi CmpIPredicate.eq 0#32 3#32 = 0#1 := rfl
  have c11 : Scalar.cmpi CmpIPredicate.eq 1#32 1#32 = 1#1 := rfl
  have c12 : Scalar.cmpi CmpIPredicate.eq 1#32 2#32 = 0#1 := rfl
  have c13 : Scalar.cmpi CmpIPredicate.eq 1#32 3#32 = 0#1 := rfl
  have c21 : Scalar.cmpi CmpIPredicate.eq 2#32 1#32 = 0#1 := rfl
  have c22 : Scalar.cmpi CmpIPredicate.eq 2#32 2#32 = 1#1 := rfl
  have c23 : Scalar.cmpi CmpIPredicate.eq 2#32 3#32 = 0#1 := rfl
  have c31 : Scalar.cmpi CmpIPredicate.eq 3#32 1#32 = 0#1 := rfl
  have c32 : Scalar.cmpi CmpIPredicate.eq 3#32 2#32 = 0#1 := rfl
  have c33 : Scalar.cmpi CmpIPredicate.eq 3#32 3#32 = 1#1 := rfl
  rw [offW, o]
  match s with
  | 0 =>
    show Scalar.addi (Scalar.addi (Scalar.addi _ (Scalar.select (Scalar.cmpi .eq 0#32 _) _ _)) (Scalar.select (Scalar.cmpi .eq 0#32 _) _ _)) (Scalar.select (Scalar.cmpi .eq 0#32 _) _ _) = _
    rw [c01, c02, c03]; simp [e, f, t]
  | 1 =>
    show Scalar.addi (Scalar.addi (Scalar.addi _ (Scalar.select (Scalar.cmpi .eq 1#32 _) _ _)) (Scalar.select (Scalar.cmpi .eq 1#32 _) _ _)) (Scalar.select (Scalar.cmpi .eq 1#32 _) _ _) = _
    rw [c11, c12, c13]; simp [e, f, t]
  | 2 =>
    show Scalar.addi (Scalar.addi (Scalar.addi _ (Scalar.select (Scalar.cmpi .eq 2#32 _) _ _)) (Scalar.select (Scalar.cmpi .eq 2#32 _) _ _)) (Scalar.select (Scalar.cmpi .eq 2#32 _) _ _) = _
    rw [c21, c22, c23]; simp [e, f, t]
  | 3 =>
    show Scalar.addi (Scalar.addi (Scalar.addi _ (Scalar.select (Scalar.cmpi .eq 3#32 _) _ _)) (Scalar.select (Scalar.cmpi .eq 3#32 _) _ _)) (Scalar.select (Scalar.cmpi .eq 3#32 _) _ _) = _
    rw [c31, c32, c33]; simp [e, f, t]

/-- The four places, from any one on. -/
theorem four_places (s z : Fin 4) : (s = z ∨ s = z + 1 ∨ s = z + 3 ∨ s = z + 2)
    ∧ z ≠ z + 1 ∧ z ≠ z + 3 ∧ z ≠ z + 2 ∧ z + 1 ≠ z + 3 ∧ z + 1 ≠ z + 2 ∧ z + 3 ≠ z + 2 := by
  revert s z; decide

section result
variable (m : (ℓ : Loc nD τ sig) → Buf (Elt Ideal) ℓ) (ρ : Dev nD → PrngReg)
variable (D : Fin 2048 → BitVec 32) (c : Dev nD) (hD : ∀ s k, dstg m ρ (gdev c s) (ix1 k) = D (rowOf s k))

/-- What the block of source `s` gives to element `(i, col)` of the result. -/
def part (s : Fin 4) (i : Fin 512) (col : Fin 256) : EReal :=
  ∑ j : Fin 160, (if i.val = off D s (zc c).val + j.val then (1 : EReal) else 0) * (segTo m ρ c s (ix3 (0 : Fin 1) j col) : EReal)

include hD

/-- A count of a source's rows is the count over all the rows. -/
theorem count_eq (s : Fin 4) : (Finset.univ.filter fun k : Fin 512 => dstg m ρ (gdev c s) (ix1 k) = zW c).card = cnt D s (zc c).val := by
  rw [cnt, zW_val]
  simp only [hD]

/-- The first running count. -/
theorem pre1_val : pre1 m ρ c = BitVec.ofNat 32 (cnt D 0 (zc c).val) := by
  rw [pre1, dAt, count12, count_eq m ρ D c hD]
  exact BitVec.zero_add _

/-- The second running count. -/
theorem pre2_val : pre2 m ρ c = BitVec.ofNat 32 (cnt D 0 (zc c).val + cnt D 1 (zc c).val) := by
  rw [pre2, dAt, count13, count_eq m ρ D c hD, pre1_val m ρ D c hD, BitVec.ofNat_add]
  rfl

/-- The third running count. -/
theorem pre3_val : pre3 m ρ c = BitVec.ofNat 32 (cnt D 0 (zc c).val + cnt D 1 (zc c).val + cnt D 2 (zc c).val) := by
  rw [pre3, dAt, count14, count_eq m ρ D c hD, pre2_val m ρ D c hD, BitVec.ofNat_add _ (cnt D 2 _)]
  rfl

/-- The slots of the block of source `s`, each at its row, are that source's part. -/
theorem part_eq (s : Fin 4) (p : BitVec 32) (hp : p = BitVec.ofNat 32 s.val) (hoff : off D s (zc c).val ≤ 512) (i : Fin 512) (col : Fin 256) :
    ∑ j : Fin 160, atRow i j (offW p (pre1 m ρ c) (pre2 m ρ c) (pre3 m ρ c)) * (segTo m ρ c s (ix3 (0 : Fin 1) j col) : EReal) = part m ρ D c s i col := by
  rw [hp, pre1_val m ρ D c hD, pre2_val m ρ D c hD, pre3_val m ρ D c hD, offW_val]
  exact Finset.sum_congr rfl fun j _ => by rw [atRow_val i j _ hoff]

/-- An element of the result is the sum of the four sources' parts. -/
theorem outAt_parts (hoff : ∀ s, off D s (zc c).val ≤ 512) (i : Fin 512) (col : Fin 256) :
    (outAt m ρ c (ix2 i col) : EReal)
      = part m ρ D c (zc c) i col + part m ρ D c (zc c + 1) i col + part m ρ D c (zc c + 3) i col + part m ρ D c (zc c + 2) i col := by
  rw [outAt, acc3_val, acc2, acc2_val, acc1, acc1_val, acc0, acc0_val, zc_nx0, zc_nx1, zc_nx2,
    part_eq m ρ D c hD _ _ (zW_one c) (hoff _), part_eq m ρ D c hD _ _ (zW_two c) (hoff _), part_eq m ρ D c hD _ _ (zW_three c) (hoff _)]
  congr 3
  exact part_eq m ρ D c hD _ _ (zW_val c) (hoff _) i col

/-- A source's running count of its rows for the device is one more than the number before the row. -/
theorem hits_eq (s : Fin 4) (k : Fin 512) (h : D (rowOf s k) = BitVec.ofNat 32 (zc c).val) :
    hits (fun k' => dstg m ρ (gdev c s) (ix1 k')) (zc c).val k = rnk D s (zc c).val k + 1 := by
  classical
  rw [hits, rnk]
  simp only [hD]
  have e : (Finset.univ.filter fun k' : Fin 512 => k' ≤ k ∧ D (rowOf s k') = BitVec.ofNat 32 (zc c).val)
      = insert k (Finset.univ.filter fun k' : Fin 512 => k' < k ∧ D (rowOf s k') = BitVec.ofNat 32 (zc c).val) := by
    ext x
    simp only [Finset.mem_filter, Finset.mem_univ, true_and, Finset.mem_insert]
    constructor
    · rintro ⟨hx, hx'⟩
      rcases lt_or_eq_of_le hx with h' | h'
      · exact Or.inr ⟨h', hx'⟩
      · exact Or.inl h'
    · rintro (rfl | ⟨h1, h2⟩)
      · exact ⟨le_rfl, h⟩
      · exact ⟨h1.le, h2⟩
  rw [e, Finset.card_insert_of_notMem (by simp)]

/-- A slot of the block of source `s`: the row for the device that has as many of the source's before it. -/
theorem segTo_val (s : Fin 4) (j : Fin 160) (col : Fin 256) :
    (segTo m ρ c s (ix3 (0 : Fin 1) j col) : EReal)
      = ∑ k : Fin 512, if D (rowOf s k) = BitVec.ofNat 32 (zc c).val ∧ rnk D s (zc c).val k = j.val
          then (xstg m ρ (gdev c s) (ix2 k col) : EReal) else 0 := by
  rw [segTo, segAt_val]
  refine Finset.sum_congr rfl fun k _ => ?_
  rw [hD]
  by_cases h : D (rowOf s k) = BitVec.ofNat 32 (zc c).val
  · rw [hits_eq m ρ D c hD s k h]
    simp only [h, true_and, Nat.add_right_cancel_iff]
  · simp only [h, false_and, if_false]

/-- The source whose row belongs at `i` gives that row; every other source gives zero. -/
theorem part_val (hF : Fits D) (s₀ : Fin 4) (k₀ i : Fin 512) (h₀ : D (rowOf s₀ k₀) = BitVec.ofNat 32 (zc c).val)
    (hi : i.val = off D s₀ (zc c).val + rnk D s₀ (zc c).val k₀) (s : Fin 4) (col : Fin 256) :
    part m ρ D c s i col = if s = s₀ then (xstg m ρ (gdev c s₀) (ix2 k₀ col) : EReal) else 0 := by
  have hz (j : Fin 160) (k : Fin 512) (hij : i.val = off D s (zc c).val + j.val) (h : D (rowOf s k) = BitVec.ofNat 32 (zc c).val ∧ rnk D s (zc c).val k = j.val) :
      s = s₀ ∧ k = k₀ := hF.unique (zc c) s s₀ k k₀ h.1 h₀ (by rw [h.2, ← hij, hi])
  have hr : rnk D s₀ (zc c).val k₀ < 160 := lt_of_lt_of_le (rnk_lt_cnt s₀ _ k₀ h₀) (hF.le s₀ (zc c))
  rw [part]
  simp only [segTo_val m ρ D c hD]
  by_cases hs : s = s₀
  · subst hs
    rw [if_pos rfl, Finset.sum_eq_single (⟨rnk D s (zc c).val k₀, hr⟩ : Fin 160), if_pos hi, one_mul, Finset.sum_eq_single k₀, if_pos ⟨h₀, rfl⟩]
    · intro k _ hk
      exact if_neg fun h => hk (hz _ k hi h).2
    · intro h; exact absurd (Finset.mem_univ _) h
    · intro j _ hj
      rw [if_neg, zero_mul]
      intro hij
      refine hj (Fin.ext ?_)
      show j.val = rnk D s (zc c).val k₀
      omega
    · intro h; exact absurd (Finset.mem_univ _) h
  · rw [if_neg hs]
    refine Finset.sum_eq_zero fun j _ => ?_
    by_cases hij : i.val = off D s (zc c).val + j.val
    · rw [if_pos hij, one_mul]
      exact Finset.sum_eq_zero fun k _ => if_neg fun h => hs (hz j k hij h).1
    · rw [if_neg hij, zero_mul]

/-- Row `i` of the device's result is row `k` of source `s`, where `i` is the number of rows for the device that the
    earlier sources send and that `s` sends before its row `k`. -/
theorem outAt_val (hF : Fits D) (s : Fin 4) (k i : Fin 512) (h : D (rowOf s k) = BitVec.ofNat 32 (zc c).val)
    (hi : i.val = off D s (zc c).val + rnk D s (zc c).val k) (col : Fin 256) :
    (outAt m ρ c (ix2 i col) : EReal) = (xstg m ρ (gdev c s) (ix2 k col) : EReal) := by
  rw [outAt_parts m ρ D c hD (fun s => le_trans (Nat.le_add_right _ _) (hF.off_add_le s (zc c)))]
  simp only [part_val m ρ D c hD hF s k i h hi]
  generalize (xstg m ρ (gdev c s) (ix2 k col) : EReal) = v
  generalize zc c = z
  obtain ⟨hc, n1, n3, n2, n13, n12, n32⟩ := four_places s z
  rcases hc with e | e | e | e
  · rw [if_pos e.symm, if_neg (by rw [e]; exact n1.symm), if_neg (by rw [e]; exact n3.symm), if_neg (by rw [e]; exact n2.symm)]; simp
  · rw [if_neg (by rw [e]; exact n1), if_pos e.symm, if_neg (by rw [e]; exact n13.symm), if_neg (by rw [e]; exact n12.symm)]; simp
  · rw [if_neg (by rw [e]; exact n3), if_neg (by rw [e]; exact n13), if_pos e.symm, if_neg (by rw [e]; exact n32.symm)]; simp
  · rw [if_neg (by rw [e]; exact n2), if_neg (by rw [e]; exact n12), if_neg (by rw [e]; exact n32), if_pos e.symm]; simp

end result

end Cert.A2A

end
-- ==== Proof.Mask.lean ====
/- What the mask says: where it is set, no source sends a device more rows than a block holds, and the rows for each device
   are as many as its result has. -/
module

public import proofs.«01_k».proof.Proof.Order
public import proofs.«01_k».proof.Proof.Gen.On_fits
public import Idealize.ShloMosaic.Lib.IndicatorCount
public import Idealize.ShloMosaic.Lib.ReduceAll
public import Idealize.ShloMosaic.Lib.Pointwise

@[expose] public section

set_option maxRecDepth 16384

noncomputable section

namespace Cert.A2A

open Cert.On_fits Cert.On_fits.Gen Idealize.ShloMosaic
open scoped BigOperators

/-- The mask's table of how many rows each source sends to each place. -/
def sent (d : IVec S2048 32) : IVec S4x4 32 :=
  Host.reduce IntOp.addi ((extui 32 · Facts.natLt_1_32) (cmpi .eq
    (broadcastInDim S4x4x512 ![0, 1, 2] Facts.bcast_S4x1x512_S4x4x512_0_1_2 (shapeCast S4x1x512 d Facts.shapeCasts_S2048_S4x1x512))
    (broadcastInDim S4x4x512 ![0, 1, 2] Facts.bcast_S1x4x1_S4x4x512_0_1_2 (shapeCast S1x4x1 (iotaInDim S4 32 0) Facts.shapeCasts_S4_S1x4x1))))
    (constantI S_ 32 0#32) Facts.reducesTo_S4x4x512_S4x4_d2 Facts.h_S_

/-- An entry of that table. -/
theorem sent_val (d : IVec S2048 32) (s r : Fin 4) :
    sent d (ix2 s r) = BitVec.ofNat 32 (cnt (fun p => d (ix1 p)) s r.val) := by
  pointwise [sent]
  refine (IndicatorCount.fold_addi_setWidth_eq_card _ _).trans (congrArg (BitVec.ofNat 32) ?_)
  rw [cnt]
  refine congrArg Finset.card (Finset.filter_congr fun k _ => ?_)
  rw [IntOp.cmpi_eq]
  refine iff_of_eq (congrArg (fun p => d (ix1 p) = BitVec.ofNat 32 r.val) (Fin.ext ?_))
  show s.val * 512 + k.val = 512 * s.val + k.val
  omega

/-- A sum of words is the word of the sum. -/
theorem fold_ofNat {ι : Type} [DecidableEq ι] (f : ι → ℕ) (S : Finset ι) :
    S.fold IntOp.addi (0#32) (fun x => BitVec.ofNat 32 (f x)) = BitVec.ofNat 32 (∑ x ∈ S, f x) := by
  induction S using Finset.induction_on with
  | empty => rfl
  | insert a S ha ih =>
    rw [Finset.fold_insert ha, ih, Finset.sum_insert ha, BitVec.ofNat_add]
    rfl

/-- The column sums of that table. -/
theorem sent_sum (d : IVec S2048 32) (r : Fin 4) :
    Host.reduce IntOp.addi (sent d) (constantI S_ 32 0#32) Facts.reducesTo_S4x4_S4_d0 Facts.h_S_ (ix1 r)
      = BitVec.ofNat 32 (∑ s : Fin 4, cnt (fun p => d (ix1 p)) s r.val) := by
  have h := sent_val d
  generalize sent d = q at h ⊢
  pointwise []
  simp only [h]
  exact fold_ofNat _ _

/-- Where the mask is set, the destinations fit. -/
theorem fits_of_mask (x : FVec Ideal S2048x256 .bf16) (d : IVec S2048 32) (i : S2048x256.Idx) (h : fn (F := Ideal) x d i = 1#1) :
    Fits fun p => d (ix1 p) := by
  have h' : IntOp.andi
      (Host.reduce IntOp.andi (cmpi .sle (sent d) (broadcastInDim S4x4 ![] Facts.bcast_S_S4x4 (constantI S_ 32 160#32))) (constantI S_ 1 1#1) Facts.reducesTo_S4x4_S_d0_1 Facts.h_S_ ix0)
      (Host.reduce IntOp.andi (cmpi .eq (Host.reduce IntOp.addi (sent d) (constantI S_ 32 0#32) Facts.reducesTo_S4x4_S4_d0 Facts.h_S_)
        (broadcastInDim S4 ![] Facts.bcast_S_S4 (constantI S_ 32 512#32))) (constantI S_ 1 1#1) Facts.reducesTo_S4_S_d0 Facts.h_S_ ix0) = 1#1 := by
    exact h
  obtain ⟨h1, h2⟩ := IntOp.andi_eq_one.1 h'
  haveI : Subsingleton S_.Idx := ⟨fun a b => funext fun k => k.elim0⟩
  have le : ∀ s r : Fin 4, cnt (fun p => d (ix1 p)) s r.val ≤ 160 := fun s r => by
    have e := Host.reduce_andi_all _ _ _ _ _ h1 (ix2 s r)
    have e' : IntOp.cmpi .sle (sent d (ix2 s r)) 160#32 = 1#1 := e
    rw [sent_val, IntOp.cmpi_sle] at e'
    have hc : cnt (fun p => d (ix1 p)) s r.val ≤ 512 := le_trans (Finset.card_le_univ _) (by simp)
    rw [BitVec.toInt_eq_toNat_cond, BitVec.toNat_ofNat, Nat.mod_eq_of_lt (by omega), if_pos (by omega)] at e'
    have : (160#32).toInt = 160 := by decide
    rw [this] at e'
    omega
  refine ⟨le, fun r => ?_⟩
  have e := Host.reduce_andi_all _ _ _ _ _ h2 (ix1 r)
  have e' : IntOp.cmpi .eq (Host.reduce IntOp.addi (sent d) (constantI S_ 32 0#32) Facts.reducesTo_S4x4_S4_d0 Facts.h_S_ (ix1 r)) 512#32 = 1#1 := e
  rw [sent_sum, IntOp.cmpi_eq] at e'
  have hs : ∑ s : Fin 4, cnt (fun p => d (ix1 p)) s r.val ≤ 640 := by
    rw [Fin.sum_univ_four]
    have := le 0 r; have := le 1 r; have := le 2 r; have := le 3 r
    omega
  have e2 := congrArg BitVec.toNat e'
  rw [BitVec.toNat_ofNat, BitVec.toNat_ofNat] at e2
  omega

end Cert.A2A

end
-- ==== Proof.Ref.lean ====
/- What the reference computes, element by element: the rows of the argument in the stable order of their destinations. -/
module

public import proofs.«01_k».proof.Proof.Order
public import proofs.«01_k».proof.Proof.Gen.ReferenceIdeal.Run
public import proofs.«01_k».proof.Defs
public import Idealize.ShloMosaic.Lib.Quiescent
public import Idealize.ShloMosaic.Lib.Routing.Ops
public import Idealize.ShloMosaic.Lib.Routing.OpsPair
public import Idealize.ShloMosaic.Lib.SortFacts
public import Idealize.ShloMosaic.Lib.Pointwise
public import Idealize.ShloMosaic.Lib.Pointwise.IndexBridge

@[expose] public section

set_option maxRecDepth 16384

noncomputable section

namespace Cert.A2A

open Cert.ReferenceIdeal Cert.ReferenceIdeal.Gen Idealize.ShloMosaic Idealize.SL.Sem
open scoped BigOperators

/-- The rows in the order of the result: the positions of the destinations, sorted stably by them. -/
def order (d : IVec S2048 32) : IVec S2048 32 :=
  (Host.sort2 S2048 0 comparator_i32_i32_d0 d (iotaInDim S2048 32 0)).2

/-- A sort of two tables of one axis: the second reads through the one reordering of the positions. -/
theorem sort2_snd {α β : Type} (cmp : α × β → α × β → BitVec 1) (x : S2048.Idx → α) (y : S2048.Idx → β) (j : S2048.Idx) :
    (Host.sort2 S2048 0 cmp x y).2 j
      = y (Shape.Idx.ofFin (sortedFrom (fun k k' : Fin 2048 => cmp (x (Shape.Idx.ofFin k), y (Shape.Idx.ofFin k))
          (x (Shape.Idx.ofFin k'), y (Shape.Idx.ofFin k')) == 1#1) (j 0))) := by
  unfold Host.sort2
  simp

/-- The numbers `0, 1, …` at a position. -/
theorem iota_ofFin (k : Fin 2048) : iotaInDim S2048 32 0 (Shape.Idx.ofFin k) = BitVec.ofNat 32 k.val := rfl

/-- Entry `p` of that order, as a word. -/
theorem order_val (d : IVec S2048 32) (p : Fin 2048) :
    order d (ix1 p) = BitVec.ofNat 32 (sortedFrom (goesBefore fun q => d (ix1 q)) p).val := by
  have hof (k : Fin 2048) : (Shape.Idx.ofFin k : S2048.Idx) = ix1 k := by
    rw [Shape.Idx.eq_ofFin (ix1 k)]; rfl
  have e : sortedFrom (goesBefore fun q => d (ix1 q))
      = sortedFrom (fun k k' : Fin 2048 => comparator_i32_i32_d0 (d (Shape.Idx.ofFin k), iotaInDim S2048 32 0 (Shape.Idx.ofFin k))
          (d (Shape.Idx.ofFin k'), iotaInDim S2048 32 0 (Shape.Idx.ofFin k')) == 1#1) := by
    rw [← sortedFrom_slt]
    refine congrArg sortedFrom (funext fun k => funext fun k' => ?_)
    rw [hof, hof]
    show _ = (IntOp.cmpi .slt (d (ix1 k)) (d (ix1 k')) == 1#1)
    rw [Bool.eq_iff_iff, beq_iff_eq, IntOp.cmpi_slt, BitVec.slt_iff_toInt_lt]
  rw [e, order, sort2_snd, iota_ofFin]
  rfl

/-- The result of the reference, of its two arguments. -/
def refOut (x : FVec Ideal S2048x256 .bf16) (d : IVec S2048 32) : FVec Ideal S2048x256 .f32 :=
  extf .f32 (Host.gather gather_S2048x256_S2048x1_S2048x256_1_0_n_n_0_1_1256 x
    (broadcastInDim S2048x1 ![0] bcast_S2048_S2048x1_0
      (select (cmpi .slt (order d) (broadcastInDim S2048 ![] bcast_S_S2048 (constantI S_ 32 0#32)))
        (addi (order d) (broadcastInDim S2048 ![] bcast_S_S2048 (constantI S_ 32 2048#32))) (order d)))) bitsLt_bf16_f32

/-- Row `p` of the reference's result is the row of the argument that stands at `p` in the stable order of the destinations. -/
theorem refOut_val (x : FVec Ideal S2048x256 .bf16) (d : IVec S2048 32) (p : Fin 2048) (col : Fin 256) :
    (refOut x d (ix2 p col) : EReal) = (x (ix2 (sortedFrom (goesBefore fun q => d (ix1 q)) p) col) : EReal) := by
  rw [refOut]
  show (Host.gather gather_S2048x256_S2048x1_S2048x256_1_0_n_n_0_1_1256 x _ (ix2 p col) : EReal) = _
  rw [ix2_eq_valueIdx, ix2_eq_valueIdx]
  refine Routing.gather_row gather_S2048x256_S2048x1_S2048x256_1_0_n_n_0_1_1256 rfl rfl rfl rfl rfl x _ p col _ ?_ (by norm_num)
  rw [← ix2_eq_valueIdx]
  have h : ∀ o : IVec S2048 32, o (ix1 p) = BitVec.ofNat 32 (sortedFrom (goesBefore fun q => d (ix1 q)) p).val →
      broadcastInDim S2048x1 ![0] bcast_S2048_S2048x1_0
      (select (cmpi .slt o (broadcastInDim S2048 ![] bcast_S_S2048 (constantI S_ 32 0#32)))
        (addi o (broadcastInDim S2048 ![] bcast_S_S2048 (constantI S_ 32 2048#32))) o) (ix2 p (0 : Fin 1))
        = BitVec.ofNat 32 (sortedFrom (goesBefore fun q => d (ix1 q)) p).val := by
    intro o ho
    pointwise []
    rw [ho]
    have hlt := (sortedFrom (goesBefore fun q => d (ix1 q)) p).isLt
    refine Routing.wrap_of_lt _ _ ?_
    rw [BitVec.toNat_ofNat, Nat.mod_eq_of_lt (by omega)]
    norm_num
    omega
  exact h _ (order_val d p)

/-- The reference runs, leaves its arguments as they were and every semaphore at zero. -/
theorem frame_reference : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.A2A

end
-- ==== Proof.Value.lean ====
/- The kernel's result is the reference's: each device ends with its rows of the argument in the stable order of their
   destinations, wherever the destinations fit. -/
module

public import proofs.«01_k».proof.Proof.Run
public import proofs.«01_k».proof.Proof.Out
public import proofs.«01_k».proof.Proof.Mask
public import proofs.«01_k».proof.Proof.Ref

@[expose] public section

set_option maxRecDepth 16384

noncomputable section

namespace Cert.A2A

open Idealize.ShloMosaic Idealize.SL.Sem
open Cert.KernelIdeal (nD τ sig S512 S512x256 main_arg0 main_arg1 main_v1)
open scoped BigOperators

/-- The block of a row array that a device holds starts at the row of its place. -/
theorem rows_block {α : Type} (c : Dev nD) (v : (⟨2, ![2048, 256]⟩ : Shape).Idx → α) (i : Fin 512) (col : Fin 256) :
    (Layout.blockN ⟨2, ![512, 256]⟩ ⟨2, ![2048, 256]⟩ (Layout.meshBlock [2, 2, 4] ![[2], []] c) v : (⟨2, ![512, 256]⟩ : Shape).Idx → α) (ix2 i col)
      = v (ix2 (rowOf (zc c) i) col) := by
  refine congrArg v (funext fun a => Fin.ext ?_)
  have hz : Layout.meshLin [2, 2, 4] c.val [2] = (zc c).val := by revert c; decide
  match a with
  | ⟨0, _⟩ =>
    show Layout.meshLin [2, 2, 4] c.val [2] * 512 + i.val = 512 * (zc c).val + i.val
    rw [hz]; omega
  | ⟨1, _⟩ =>
    show 0 * 256 + col.val = col.val
    omega

/-- The block of an array of one word for each row that a device holds starts at the row of its place. -/
theorem words_block {α : Type} (c : Dev nD) (v : (⟨1, ![2048]⟩ : Shape).Idx → α) (i : Fin 512) :
    (Layout.blockN ⟨1, ![512]⟩ ⟨1, ![2048]⟩ (Layout.meshBlock [2, 2, 4] ![[2]] c) v : (⟨1, ![512]⟩ : Shape).Idx → α) (ix1 i)
      = v (ix1 (rowOf (zc c) i)) := by
  refine congrArg v (funext fun a => Fin.ext ?_)
  have hz : Layout.meshLin [2, 2, 4] c.val [2] = (zc c).val := by revert c; decide
  match a with
  | ⟨0, _⟩ =>
    show Layout.meshLin [2, 2, 4] c.val [2] * 512 + i.val = 512 * (zc c).val + i.val
    rw [hz]; omega

/-- Over exact numbers, where the destinations fit, each device's result is its part of the reference's. -/
theorem value : Cert.algebraic_KernelIdeal_ReferenceIdeal_on_fits := by
  intro m ρ m' ρ' _ hargs
  set x : FVec Ideal Cert.ReferenceIdeal.S2048x256 .bf16 := m' (((0 : Dev Cert.ReferenceIdeal.nD).tc : Thread Cert.ReferenceIdeal.nD Cert.ReferenceIdeal.τ).loc Cert.ReferenceIdeal.main_arg0) with hx
  set d : IVec Cert.ReferenceIdeal.S2048 32 := m' (((0 : Dev Cert.ReferenceIdeal.nD).tc : Thread Cert.ReferenceIdeal.nD Cert.ReferenceIdeal.τ).loc Cert.ReferenceIdeal.main_arg1) with hd
  refine ⟨refOut x d, ?_, ?_⟩
  · refine (θ_run Cert.KernelIdeal.defs _ _).mono (fun r h c => ⟨fun i hi => ?_, (h.1 c).2⟩) (run_main (F := Ideal) m ρ)
    have hF : Fits fun p => d (ix1 p) := fits_of_mask x d _ hi
    have ex : ∀ (c : Dev nD) (k : Fin 512) (col : Fin 256), (xstg m ρ c (ix2 k col) : EReal) = (x (ix2 (rowOf (zc c) k) col) : EReal) := fun c k col => by
      rw [xstg_eq, (hargs c).1]
      exact rows_block c x k col
    have ed : ∀ s k, dstg m ρ (gdev c s) (ix1 k) = d (ix1 (rowOf s k)) := fun s k => by
      rw [dstg_eq, (hargs _).2]
      exact (words_block (gdev c s) d k).trans (by rw [zc_gdev])
    obtain ⟨i, col, rfl⟩ : ∃ (a : Fin 512) (b : Fin 256), i = ix2 a b := ⟨i 0, i 1, by funext a; match a with | ⟨0, _⟩ => rfl | ⟨1, _⟩ => rfl⟩
    obtain ⟨s, k, e1, e2, e3⟩ := hF.sorted (zc c) i
    rw [(h.1 c).1]
    refine (outAt_val m ρ (fun p => d (ix1 p)) c ed hF s k i e2 e3 col).trans ?_
    rw [ex, zc_gdev]
    refine Eq.trans ?_ (rows_block c (refOut x d) i col).symm
    exact (congrArg (fun q => (x (ix2 q col) : EReal)) e1.symm).trans (refOut_val x d (rowOf (zc c) i) col).symm
  · exact (θ_run Cert.ReferenceIdeal.defs _ _).mono (fun r h => ⟨fun i _ => congrFun (h 0).1 i, (h 0).2⟩) (Cert.ReferenceIdeal.Value.run (F := Ideal) m' ρ')

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Gen.On_fits
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_fits.Gen.facts,
  Cert.A2A.frame_kernel, Cert.A2A.frame_kernelIdeal, Cert.A2A.frame_reference, trivial, Cert.A2A.value⟩

end Cert.Proof

end
